-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x384x96 : Shape := ⟨4, ![1, 384, 384, 96]⟩
abbrev S192x96 : Shape := ⟨2, ![192, 96]⟩
abbrev S192 : Shape := ⟨1, ![192]⟩
abbrev S3x9x9 : Shape := ⟨3, ![3, 9, 9]⟩
abbrev S1x96x384x384 : Shape := ⟨4, ![1, 96, 384, 384]⟩
abbrev S96x96 : Shape := ⟨2, ![96, 96]⟩
abbrev S96 : Shape := ⟨1, ![96]⟩
abbrev S96x1 : Shape := ⟨2, ![96, 1]⟩
abbrev S1x3x25x384x384 : Shape := ⟨5, ![1, 3, 25, 384, 384]⟩
abbrev S1x96x8x384 : Shape := ⟨4, ![1, 96, 8, 384]⟩
abbrev S1x3x25x8x384 : Shape := ⟨5, ![1, 3, 25, 8, 384]⟩
abbrev S96x8x384 : Shape := ⟨3, ![96, 8, 384]⟩
abbrev S96x3072 : Shape := ⟨2, ![96, 3072]⟩
abbrev S96x9216 : Shape := ⟨2, ![96, 9216]⟩
abbrev S96x24x384 : Shape := ⟨3, ![96, 24, 384]⟩
abbrev S8x384 : Shape := ⟨2, ![8, 384]⟩
abbrev S1x8x384 : Shape := ⟨3, ![1, 8, 384]⟩
abbrev S32x8x384 : Shape := ⟨3, ![32, 8, 384]⟩
abbrev S32x24x384 : Shape := ⟨3, ![32, 24, 384]⟩
abbrev S32x1x384 : Shape := ⟨3, ![32, 1, 384]⟩
abbrev S32x384 : Shape := ⟨2, ![32, 384]⟩
abbrev S32x8x2 : Shape := ⟨3, ![32, 8, 2]⟩
abbrev S32x8x382 : Shape := ⟨3, ![32, 8, 382]⟩
abbrev S32x8x1 : Shape := ⟨3, ![32, 8, 1]⟩
abbrev S32x8 : Shape := ⟨2, ![32, 8]⟩
abbrev S1x1x1 : Shape := ⟨3, ![1, 1, 1]⟩
abbrev S1x1x1x8x384 : Shape := ⟨5, ![1, 1, 1, 8, 384]⟩
abbrev S32x8x383 : Shape := ⟨3, ![32, 8, 383]⟩
abbrev S1x3x384x384x25 : Shape := ⟨5, ![1, 3, 384, 384, 25]⟩

abbrev nBuf : Space → Nat
  | .hbm => 13
  | .vmem => 13
  | .smem => 0
  | _ => 0

abbrev bufTy : (tb : Table) → Fin (tcTables nBuf tb) → BufTy
  | .hbm, ⟨0, _⟩ => ⟨S1x384x384x96, .f32⟩
  | .hbm, ⟨1, _⟩ => ⟨S192x96, .f32⟩
  | .hbm, ⟨2, _⟩ => ⟨S192, .f32⟩
  | .hbm, ⟨3, _⟩ => ⟨S3x9x9, .f32⟩
  | .hbm, ⟨4, _⟩ => ⟨S1x96x384x384, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S96x1, .f32⟩
  | .hbm, ⟨9, _⟩ => ⟨S96, .f32⟩
  | .hbm, ⟨10, _⟩ => ⟨S96x1, .f32⟩
  | .hbm, ⟨11, _⟩ => ⟨S1x3x25x384x384, .f32⟩
  | .hbm, ⟨12, _⟩ => ⟨S1x3x384x384x25, .f32⟩
  | .local _ .vmem, ⟨0, _⟩ => ⟨S1x96x8x384, .f32⟩
  | .local _ .vmem, ⟨1, _⟩ => ⟨S1x96x8x384, .f32⟩
  | .local _ .vmem, ⟨2, _⟩ => ⟨S1x96x8x384, .f32⟩
  | .local _ .vmem, ⟨3, _⟩ => ⟨S1x96x8x384, .f32⟩
  | .local _ .vmem, ⟨4, _⟩ => ⟨S1x96x8x384, .f32⟩
  | .local _ .vmem, ⟨5, _⟩ => ⟨S1x96x8x384, .f32⟩
  | .local _ .vmem, ⟨6, _⟩ => ⟨S96x96, .f32⟩
  | .local _ .vmem, ⟨7, _⟩ => ⟨S96x96, .f32⟩
  | .local _ .vmem, ⟨8, _⟩ => ⟨S96x1, .f32⟩
  | .local _ .vmem, ⟨9, _⟩ => ⟨S96x1, .f32⟩
  | .local _ .vmem, ⟨10, _⟩ => ⟨S3x9x9, .f32⟩
  | .local _ .vmem, ⟨11, _⟩ => ⟨S1x3x25x8x384, .f32⟩
  | .local _ .vmem, ⟨12, _⟩ => ⟨S1x3x25x8x384, .f32⟩
  | _, _ => ⟨S1x384x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![48], ![false]⟩

def cc0_transform_0 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c47_i32 : BitVec 32 := 47#32
  let v1 : BitVec 32 := Scalar.minsi v0 c47_i32
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, arg0.toNat, c0_i32_2.toNat]

abbrev stage0_0 : Fin 2 → Memref sig .tc .vmem S1x96x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x9x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x3x25x8x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x384x384x96 : Shape := ⟨4, ![1, 384, 384, 96]⟩
abbrev S192x96 : Shape := ⟨2, ![192, 96]⟩
abbrev S192 : Shape := ⟨1, ![192]⟩
abbrev S3x9x9 : Shape := ⟨3, ![3, 9, 9]⟩
abbrev S96x192 : Shape := ⟨2, ![96, 192]⟩
abbrev S1x384x384x192 : Shape := ⟨4, ![1, 384, 384, 192]⟩
abbrev S1x1x1x192 : Shape := ⟨4, ![1, 1, 1, 192]⟩
abbrev S1x384x384x2x3x32 : Shape := ⟨6, ![1, 384, 384, 2, 3, 32]⟩
abbrev S2x1x3x384x384x32 : Shape := ⟨6, ![2, 1, 3, 384, 384, 32]⟩
abbrev S1x1x3x384x384x32 : Shape := ⟨6, ![1, 1, 3, 384, 384, 32]⟩
abbrev S1x3x384x384x32 : Shape := ⟨5, ![1, 3, 384, 384, 32]⟩
abbrev S384 : Shape := ⟨1, ![384]⟩
abbrev S_ : Shape := ⟨0, ![]⟩
abbrev S384x1 : Shape := ⟨2, ![384, 1]⟩
abbrev S5 : Shape := ⟨1, ![5]⟩
abbrev S1x5 : Shape := ⟨2, ![1, 5]⟩
abbrev S384x5 : Shape := ⟨2, ![384, 5]⟩
abbrev S384x5x1 : Shape := ⟨3, ![384, 5, 1]⟩
abbrev S1x3x384x5x384x32 : Shape := ⟨6, ![1, 3, 384, 5, 384, 32]⟩
abbrev S1x3x384x5x384x5x32 : Shape := ⟨7, ![1, 3, 384, 5, 384, 5, 32]⟩
abbrev S1x3x384x1x384x1x32 : Shape := ⟨7, ![1, 3, 384, 1, 384, 1, 32]⟩
abbrev S1x3x384x5x384x5 : Shape := ⟨6, ![1, 3, 384, 5, 384, 5]⟩
abbrev S3x384x5x9 : Shape := ⟨4, ![3, 384, 5, 9]⟩
abbrev S3x384x5x384x5 : Shape := ⟨5, ![3, 384, 5, 384, 5]⟩
abbrev S1x3x384x384x5x5 : Shape := ⟨6, ![1, 3, 384, 384, 5, 5]⟩
abbrev S1x3x384x384x25 : Shape := ⟨5, ![1, 3, 384, 384, 25]⟩

abbrev nBuf : Space → Nat
  | .hbm => 94
  | .vmem => 0
  | .smem => 0
  | _ => 0

abbrev bufTy : (tb : Table) → Fin (tcTables nBuf tb) → BufTy
  | .hbm, ⟨0, _⟩ => ⟨S1x384x384x96, .f32⟩
  | .hbm, ⟨1, _⟩ => ⟨S192x96, .f32⟩
  | .hbm, ⟨2, _⟩ => ⟨S192, .f32⟩
  | .hbm, ⟨3, _⟩ => ⟨S3x9x9, .f32⟩
  | .hbm, ⟨4, _⟩ => ⟨S96x192, .f32⟩
  | .hbm, ⟨5, _⟩ => ⟨S1x384x384x192, .f32⟩
  | .hbm, ⟨6, _⟩ => ⟨S1x1x1x192, .f32⟩
  | .hbm, ⟨7, _⟩ => ⟨S1x384x384x192, .f32⟩
  | .hbm, ⟨8, _⟩ => ⟨S1x384x384x192, .f32⟩
  | .hbm, ⟨9, _⟩ => ⟨S1x384x384x2x3x32, .f32⟩
  | .hbm, ⟨10, _⟩ => ⟨S2x1x3x384x384x32, .f32⟩
  | .hbm, ⟨11, _⟩ => ⟨S1x1x3x384x384x32, .f32⟩
  | .hbm, ⟨12, _⟩ => ⟨S1x3x384x384x32, .f32⟩
  | .hbm, ⟨13, _⟩ => ⟨S1x1x3x384x384x32, .f32⟩
  | .hbm, ⟨14, _⟩ => ⟨S1x3x384x384x32, .f32⟩
  | .hbm, ⟨15, _⟩ => ⟨S384, .i32⟩
  | .hbm, ⟨16, _⟩ => ⟨S_, .i32⟩
  | .hbm, ⟨17, _⟩ => ⟨S384, .i32⟩
  | .hbm, ⟨18, _⟩ => ⟨S384, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S384, .i32⟩
  | .hbm, ⟨23, _⟩ => ⟨S384, .i32⟩
  | .hbm, ⟨24, _⟩ => ⟨S_, .i32⟩
  | .hbm, ⟨25, _⟩ => ⟨S384, .i32⟩
  | .hbm, ⟨26, _⟩ => ⟨S384, .i32⟩
  | .hbm, ⟨27, _⟩ => ⟨S384x1, .i32⟩
  | .hbm, ⟨28, _⟩ => ⟨S5, .i32⟩
  | .hbm, ⟨29, _⟩ => ⟨S1x5, .i32⟩
  | .hbm, ⟨30, _⟩ => ⟨S384x5, .i32⟩
  | .hbm, ⟨31, _⟩ => ⟨S384x5, .i32⟩
  | .hbm, ⟨32, _⟩ => ⟨S384x5, .i32⟩
  | .hbm, ⟨33, _⟩ => ⟨S384, .i32⟩
  | .hbm, ⟨34, _⟩ => ⟨S_, .i32⟩
  | .hbm, ⟨35, _⟩ => ⟨S384, .i32⟩
  | .hbm, ⟨36, _⟩ => ⟨S384, .i32⟩
  | .hbm, ⟨37, _⟩ => ⟨S_, .i32⟩
  | .hbm, ⟨38, _⟩ => ⟨S384, .i32⟩
  | .hbm, ⟨39, _⟩ => ⟨S384, .i32⟩
  | .hbm, ⟨40, _⟩ => ⟨S384x1, .i32⟩
  | .hbm, ⟨41, _⟩ => ⟨S5, .i32⟩
  | .hbm, ⟨42, _⟩ => ⟨S1x5, .i32⟩
  | .hbm, ⟨43, _⟩ => ⟨S384x5, .i32⟩
  | .hbm, ⟨44, _⟩ => ⟨S384x5, .i32⟩
  | .hbm, ⟨45, _⟩ => ⟨S384x5, .i32⟩
  | .hbm, ⟨46, _⟩ => ⟨S384, .i32⟩
  | .hbm, ⟨47, _⟩ => ⟨S_, .i32⟩
  | .hbm, ⟨48, _⟩ => ⟨S384, .i32⟩
  | .hbm, ⟨49, _⟩ => ⟨S384, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S384, .i32⟩
  | .hbm, ⟨54, _⟩ => ⟨S384, .i32⟩
  | .hbm, ⟨55, _⟩ => ⟨S_, .i32⟩
  | .hbm, ⟨56, _⟩ => ⟨S384, .i32⟩
  | .hbm, ⟨57, _⟩ => ⟨S384, .i32⟩
  | .hbm, ⟨58, _⟩ => ⟨S384x1, .i32⟩
  | .hbm, ⟨59, _⟩ => ⟨S5, .i32⟩
  | .hbm, ⟨60, _⟩ => ⟨S1x5, .i32⟩
  | .hbm, ⟨61, _⟩ => ⟨S384x5, .i32⟩
  | .hbm, ⟨62, _⟩ => ⟨S384x5, .i32⟩
  | .hbm, ⟨63, _⟩ => ⟨S384x5, .i32⟩
  | .hbm, ⟨64, _⟩ => ⟨S384, .i32⟩
  | .hbm, ⟨65, _⟩ => ⟨S_, .i32⟩
  | .hbm, ⟨66, _⟩ => ⟨S384, .i32⟩
  | .hbm, ⟨67, _⟩ => ⟨S384, .i32⟩
  | .hbm, ⟨68, _⟩ => ⟨S_, .i32⟩
  | .hbm, ⟨69, _⟩ => ⟨S384, .i32⟩
  | .hbm, ⟨70, _⟩ => ⟨S384, .i32⟩
  | .hbm, ⟨71, _⟩ => ⟨S384x1, .i32⟩
  | .hbm, ⟨72, _⟩ => ⟨S5, .i32⟩
  | .hbm, ⟨73, _⟩ => ⟨S1x5, .i32⟩
  | .hbm, ⟨74, _⟩ => ⟨S384x5, .i32⟩
  | .hbm, ⟨75, _⟩ => ⟨S384x5, .i32⟩
  | .hbm, ⟨76, _⟩ => ⟨S384x5, .i32⟩
  | .hbm, ⟨77, _⟩ => ⟨S384x5x1, .i32⟩
  | .hbm, ⟨78, _⟩ => ⟨S1x3x384x5x384x32, .f32⟩
  | .hbm, ⟨79, _⟩ => ⟨S384x5x1, .i32⟩
  | .hbm, ⟨80, _⟩ => ⟨S1x3x384x5x384x5x32, .f32⟩
  | .hbm, ⟨81, _⟩ => ⟨S1x3x384x1x384x1x32, .f32⟩
  | .hbm, ⟨82, _⟩ => ⟨S1x3x384x5x384x5x32, .f32⟩
  | .hbm, ⟨83, _⟩ => ⟨S1x3x384x5x384x5x32, .f32⟩
  | .hbm, ⟨84, _⟩ => ⟨S_, .f32⟩
  | .hbm, ⟨85, _⟩ => ⟨S1x3x384x5x384x5, .f32⟩
  | .hbm, ⟨86, _⟩ => ⟨S384x5x1, .i32⟩
  | .hbm, ⟨87, _⟩ => ⟨S3x384x5x9, .f32⟩
  | .hbm, ⟨88, _⟩ => ⟨S384x5x1, .i32⟩
  | .hbm, ⟨89, _⟩ => ⟨S3x384x5x384x5, .f32⟩
  | .hbm, ⟨90, _⟩ => ⟨S1x3x384x5x384x5, .f32⟩
  | .hbm, ⟨91, _⟩ => ⟨S1x3x384x5x384x5, .f32⟩
  | .hbm, ⟨92, _⟩ => ⟨S1x3x384x384x5x5, .f32⟩
  | .hbm, ⟨93, _⟩ => ⟨S1x3x384x384x25, .f32⟩
  | _, _ => ⟨S1x384x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_c_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_v0 : Ref sig .tc := ⟨.hbm, 77, rfl⟩
abbrev main_v53 : Ref sig .tc := ⟨.hbm, 78, rfl⟩
abbrev main_call3_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst : Ref sig .tc := ⟨.hbm, 84, rfl⟩
abbrev main_v58 : Ref sig .tc := ⟨.hbm, 85, rfl⟩
abbrev main_call4_v0 : Ref sig .tc := ⟨.hbm, 86, rfl⟩
abbrev main_v59 : Ref sig .tc := ⟨.hbm, 87, rfl⟩
abbrev main_call5_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== Proof.Cell.lean ====
/- What one store of the kernel's body computes, as one function of the head and of the two window offsets.
   The printed body is one straight line of 75 stores; each of them is `cell` at its head and its offsets. -/
module

public import proofs.«01_k».proof.Proof.Gen.KernelIdeal.Skeleton
public import Idealize.ShloMosaic.Lib.Pipeline.FrameBody

@[expose] public section

noncomputable section

namespace Cert.Proof.Cell

open Cert.KernelIdeal Cert.KernelIdeal.Gen Idealize.ShloMosaic Idealize.SL.Sem

variable {F : FTy → Type} [FloatOps F]

/-! ## The shapes' side conditions -/

theorem slices_head8 (o : Nat) (h : o + 32 ≤ 96) : S96x8x384.Slices ![o, 0, 0] S32x8x384 :=
  ⟨rfl, fun a => by match a with | ⟨0, _⟩ => exact h | ⟨1, _⟩ => exact Nat.le_refl _ | ⟨2, _⟩ => exact Nat.le_refl _⟩

theorem slices_head24 (o : Nat) (h : o + 32 ≤ 96) : S96x24x384.Slices ![o, 0, 0] S32x24x384 :=
  ⟨rfl, fun a => by match a with | ⟨0, _⟩ => exact h | ⟨1, _⟩ => exact Nat.le_refl _ | ⟨2, _⟩ => exact Nat.le_refl _⟩

theorem slices_rows (o : Nat) (h : o + 8 ≤ 24) : S32x24x384.Slices ![0, o, 0] S32x8x384 :=
  ⟨rfl, fun a => by match a with | ⟨0, _⟩ => exact Nat.le_refl _ | ⟨1, _⟩ => exact h | ⟨2, _⟩ => exact Nat.le_refl _⟩

theorem slices_row (o : Nat) (h : o + 1 ≤ 24) : S32x24x384.Slices ![0, o, 0] S32x1x384 :=
  ⟨rfl, fun a => by match a with | ⟨0, _⟩ => exact Nat.le_refl _ | ⟨1, _⟩ => exact h | ⟨2, _⟩ => exact Nat.le_refl _⟩

theorem slices_col (o : Nat) (h : o + 1 ≤ 384) : S32x8x384.Slices ![0, 0, o] S32x8x1 :=
  ⟨rfl, fun a => by match a with | ⟨0, _⟩ => exact Nat.le_refl _ | ⟨1, _⟩ => exact Nat.le_refl _ | ⟨2, _⟩ => exact h⟩

theorem inb_entry (h a b : Nat) (hh : h < 3) (ha : a < 9) (hb : b < 9) :
    ∀ d, (![h, a, b] : Fin S3x9x9.rank → Nat) d + S1x1x1.size d ≤ S3x9x9.size d := fun d => by
  match d with | ⟨0, _⟩ => exact hh | ⟨1, _⟩ => exact ha | ⟨2, _⟩ => exact hb

/-! ## The keys a query row meets -/

/-- A mask of rows and columns, the same for all channels. -/
def mask (c : IVec S1x8x384 1) : IVec S32x8x384 1 :=
  broadcastTo S32x8x384 (shapeCast S1x8x384 c shapeCasts_S1x8x384_S1x8x384) broadcasts_S1x8x384_S32x8x384

/-- Row `o` of the key strip, repeated on all eight rows. -/
def oneRow (k : FVec F S32x24x384 .f32) (o : Nat) (h : o + 1 ≤ 24) : FVec F S32x8x384 .f32 :=
  broadcastTo S32x8x384 (shapeCast S32x1x384 (shapeCast S32x1x384 (shapeCast S32x384
    (extractStridedSlice S32x1x384 ![0, o, 0] k (slices_row o h)) shapeCasts_S32x1x384_S32x384)
    shapeCasts_S32x384_S32x1x384) shapeCasts_S32x1x384_S32x1x384) broadcasts_S32x1x384_S32x8x384

/-- The key rows at row offset `ki`: the strip moved by `ki`, one fixed row near the array's two ends. -/
def rows (row : IVec S1x8x384 32) (k : FVec F S32x24x384 .f32) (ki : Nat) (hi : ki < 5) : FVec F S32x8x384 .f32 :=
  select (mask (cmpi .slt row (broadcast S1x8x384 2#32))) (oneRow k (8 + ki) (by omega))
    (select (mask (cmpi .sgt row (broadcast S1x8x384 381#32))) (oneRow k (11 + ki) (by omega))
      (extractStridedSlice S32x8x384 ![0, 6 + ki, 0] k (slices_rows (6 + ki) (by omega))))

/-- Column `o`, repeated on all columns. -/
def oneCol (x : FVec F S32x8x384 .f32) (o : Nat) (h : o + 1 ≤ 384) : FVec F S32x8x384 .f32 :=
  broadcastTo S32x8x384 (shapeCast S32x8x1 (shapeCast S32x8x1 (shapeCast S32x8
    (extractStridedSlice S32x8x1 ![0, 0, o] x (slices_col o h)) shapeCasts_S32x8x1_S32x8)
    shapeCasts_S32x8_S32x8x1) shapeCasts_S32x8x1_S32x8x1) broadcasts_S32x8x1_S32x8x384

/-- The columns turned cyclically by `2 - kj`. -/
def turn (x : FVec F S32x8x384 .f32) (kj : Nat) : FVec F S32x8x384 .f32 :=
  match kj with
  | 0 => concatenate S32x8x384 2 [⟨S32x8x2, extractStridedSlice S32x8x2 ![0, 0, 382] x slices_S32x8x384_o0_0_382_S32x8x2⟩,
      ⟨S32x8x382, extractStridedSlice S32x8x382 ![0, 0, 0] x slices_S32x8x384_o0_0_0_S32x8x382⟩]
      concatenates_S32x8x2_S32x8x382_S32x8x384_d2
  | 1 => concatenate S32x8x384 2 [⟨S32x8x1, extractStridedSlice S32x8x1 ![0, 0, 383] x slices_S32x8x384_o0_0_383_S32x8x1⟩,
      ⟨S32x8x383, extractStridedSlice S32x8x383 ![0, 0, 0] x slices_S32x8x384_o0_0_0_S32x8x383⟩]
      concatenates_S32x8x1_S32x8x383_S32x8x384_d2
  | 2 => x
  | 3 => concatenate S32x8x384 2 [⟨S32x8x383, extractStridedSlice S32x8x383 ![0, 0, 1] x slices_S32x8x384_o0_0_1_S32x8x383⟩,
      ⟨S32x8x1, extractStridedSlice S32x8x1 ![0, 0, 0] x slices_S32x8x384_o0_0_0_S32x8x1⟩]
      concatenates_S32x8x383_S32x8x1_S32x8x384_d2
  | _ => concatenate S32x8x384 2 [⟨S32x8x382, extractStridedSlice S32x8x382 ![0, 0, 2] x slices_S32x8x384_o0_0_2_S32x8x382⟩,
      ⟨S32x8x2, extractStridedSlice S32x8x2 ![0, 0, 0] x slices_S32x8x384_o0_0_0_S32x8x2⟩]
      concatenates_S32x8x382_S32x8x2_S32x8x384_d2

/-- The key columns at column offset `kj`: the columns turned, one fixed column near the array's two ends. -/
def cols (col : IVec S1x8x384 32) (x : FVec F S32x8x384 .f32) (kj : Nat) (hj : kj < 5) : FVec F S32x8x384 .f32 :=
  select (mask (cmpi .slt col (broadcast S1x8x384 2#32))) (oneCol x kj (by omega))
    (select (mask (cmpi .sgt col (broadcast S1x8x384 381#32))) (oneCol x (379 + kj) (by omega)) (turn x kj))

/-- The products of queries and keys summed over the channels of the head. -/
def logit (q k : FVec F S32x8x384 .f32) : FVec F S8x384 .f32 :=
  multiReduction .add [0] S8x384 (mulf q k) 0x00000000#32 reduces_S32x8x384_S8x384 (.inl rfl) rfl

/-! ## The bias -/

/-- One entry of the bias table. -/
def entry (b : Vec F S3x9x9 .f32) (h a d : Nat) (hh : h < 3) (ha : a < 9) (hd : d < 9) : F .f32 :=
  extractAt ![0, 0, 0] (View.ld b (Rect.unit (s := S3x9x9) ![h, a, d] S1x1x1.size (inb_entry h a d hh ha hd)))
    inpos_S1x1x1_p0_0_0

/-- The choice among five values by row or column number: the first two, the last two, and all between. -/
def five (n : IVec S8x384 32) (c0 c1 c2 c3 c : FVec F S8x384 .f32) : FVec F S8x384 .f32 :=
  select (cmpi .eq n (broadcast S8x384 0#32)) c0 (select (cmpi .eq n (broadcast S8x384 1#32)) c1
    (select (cmpi .eq n (broadcast S8x384 382#32)) c2 (select (cmpi .eq n (broadcast S8x384 383#32)) c3 c)))

/-- The table's row `a` spread over the columns. -/
def colBias (col : IVec S8x384 32) (b : Vec F S3x9x9 .f32) (h a kj : Nat) (hh : h < 3) (ha : a < 9) (hj : kj < 5) :
    FVec F S8x384 .f32 :=
  five col (broadcast S8x384 (entry b h a (4 + kj) hh ha (by omega))) (broadcast S8x384 (entry b h a (3 + kj) hh ha (by omega)))
    (broadcast S8x384 (entry b h a (1 + kj) hh ha (by omega))) (broadcast S8x384 (entry b h a kj hh ha (by omega)))
    (broadcast S8x384 (entry b h a (2 + kj) hh ha (by omega)))

/-- The bias at every row and column. -/
def bias (row col : IVec S8x384 32) (b : Vec F S3x9x9 .f32) (h ki kj : Nat) (hh : h < 3) (hi : ki < 5) (hj : kj < 5) :
    FVec F S8x384 .f32 :=
  five row (colBias col b h (4 + ki) kj hh (by omega) hj) (colBias col b h (3 + ki) kj hh (by omega) hj)
    (colBias col b h (1 + ki) kj hh (by omega) hj) (colBias col b h ki kj hh (by omega) hj)
    (colBias col b h (2 + ki) kj hh (by omega) hj)

/-! ## The store -/

/-- The row numbers of grid point `i`. -/
def rowNum (i : grid0.Coords) : IVec S8x384 32 := k0_pay5 i

/-- The column numbers. -/
def colNum : IVec S8x384 32 := iota .tc S8x384 32 [1] iota_S8x384_d1_w32

/-- Slab `(h, ki, kj)` of the block: the logits and the bias. -/
def slab (i : grid0.Coords) (q : FVec F S96x8x384 .f32) (k : FVec F S96x24x384 .f32) (b : Vec F S3x9x9 .f32)
    (h ki kj : Nat) (hh : h < 3) (hi : ki < 5) (hj : kj < 5) : FVec F S8x384 .f32 :=
  addf (logit (extractStridedSlice S32x8x384 ![32 * h, 0, 0] q (slices_head8 (32 * h) (by omega)))
      (cols (shapeCast S1x8x384 colNum shapeCasts_S8x384_S1x8x384)
        (rows (shapeCast S1x8x384 (rowNum i) shapeCasts_S8x384_S1x8x384)
          (extractStridedSlice S32x24x384 ![32 * h, 0, 0] k (slices_head24 (32 * h) (by omega))) ki hi) kj hj))
    (bias (rowNum i) colNum b h ki kj hh hi hj)

/-- The same as the store's payload. -/
def cell (i : grid0.Coords) (q : FVec F S96x8x384 .f32) (k : FVec F S96x24x384 .f32) (b : Vec F S3x9x9 .f32)
    (h ki kj : Nat) (hh : h < 3) (hi : ki < 5) (hj : kj < 5) : FVec F S1x1x1x8x384 .f32 :=
  shapeCast S1x1x1x8x384 (slab i q k b h ki kj hh hi hj) shapeCasts_S8x384_S1x1x1x8x384

end Cert.Proof.Cell

end
-- ==== Proof.Spec.lean ====
/- Windowed attention logits with a relative position bias, in the extended reals: what both programs compute. -/
module

public import Idealize.ShloMosaic.PureOps.Ideal.Laws

@[expose] public section

noncomputable section

namespace Cert.Proof.Spec

open scoped BigOperators

/-- The first of the five places that place `i` of an axis of 384 attends to: the window is centred at `i`, moved
    inside the axis at its two ends. -/
def start (i : Nat) : Nat := min (i - 2) 379

theorem start_add_lt (i k : Nat) (hk : k < 5) : start i + k < 384 := by unfold start; omega

/-- The distance from place `i` to the window's place `k`, counted from 0 to 8. -/
theorem start_sub_lt (i k : Nat) (hi : i < 384) (hk : k < 5) : start i + 4 + k - i < 9 := by unfold start; omega

variable (X : Fin 384 → Fin 384 → Fin 96 → EReal) (W : Fin 192 → Fin 96 → EReal) (B : Fin 192 → EReal)
  (T : Fin 3 → Fin 9 → Fin 9 → EReal)

/-- Feature `f` of the linear layer at row `i`, column `j`. -/
def feature (f : Fin 192) (i j : Fin 384) : EReal := ∑ c : Fin 96, X i j c * W f c + B f

/-- The query features of head `h`. -/
def query (h : Fin 3) (d : Fin 32) (i j : Fin 384) : EReal :=
  feature X W B ⟨32 * h.val + d.val, by omega⟩ i j

/-- The key features of head `h`. -/
def key (h : Fin 3) (d : Fin 32) (i j : Fin 384) : EReal :=
  feature X W B ⟨96 + (32 * h.val + d.val), by omega⟩ i j

/-- The logit of head `h` at row `i`, column `j`, for the window's place `(ki, kj)`. -/
def logit (h : Fin 3) (i j : Fin 384) (ki kj : Fin 5) : EReal :=
  ∑ d : Fin 32, query X W B h d i j
      * key X W B h d ⟨start i.val + ki.val, start_add_lt _ _ ki.isLt⟩ ⟨start j.val + kj.val, start_add_lt _ _ kj.isLt⟩
    + T h ⟨start i.val + 4 + ki.val - i.val, start_sub_lt _ _ i.isLt ki.isLt⟩
        ⟨start j.val + 4 + kj.val - j.val, start_sub_lt _ _ j.isLt kj.isLt⟩

end Cert.Proof.Spec

end
-- ==== Proof.Block.lean ====
/- What one store of the kernel's body holds, element by element, over the extended reals. -/
module

public import proofs.«01_k».proof.Proof.Cell
public import proofs.«01_k».proof.Proof.Spec
public import Idealize.ShloMosaic.Lib.Pointwise
public import Idealize.ShloMosaic.Lib.WordCmp

@[expose] public section

noncomputable section

namespace Cert.Proof.Block

open Cert.KernelIdeal Cert.KernelIdeal.Gen Idealize.ShloMosaic Idealize.SL.Sem Cert.Proof.Cell
open Cert.Proof.Spec (start start_add_lt start_sub_lt)
open scoped BigOperators

/-- Equal coordinates, equal elements. -/
theorem at_mid {α : Type} {n0 n1 n2 : Nat} (x : (⟨3, ![n0, n1, n2]⟩ : Shape).Idx → α) (a : Fin n0) (b b' : Nat) (hb : b < n1)
    (hb' : b' < n1) (c : Fin n2) (e : b = b') : x (ix3 a ⟨b, hb⟩ c) = x (ix3 a ⟨b', hb'⟩ c) := by subst e; rfl

theorem at_last {α : Type} {n0 n1 n2 : Nat} (x : (⟨3, ![n0, n1, n2]⟩ : Shape).Idx → α) (a : Fin n0) (b : Fin n1) (c c' : Nat)
    (hc : c < n2) (hc' : c' < n2) (e : c = c') : x (ix3 a b ⟨c, hc⟩) = x (ix3 a b ⟨c', hc'⟩) := by subst e; rfl

theorem oneRow_apply (k : FVec Ideal S32x24x384 .f32) (o : Nat) (h : o + 1 ≤ 24) (a : Fin 32) (r : Fin 8) (w : Fin 384) :
    oneRow k o h (ix3 a r w) = k (ix3 a ⟨o, by omega⟩ w) := by
  pointwise [oneRow]

theorem oneCol_apply (x : FVec Ideal S32x8x384 .f32) (o : Nat) (h : o + 1 ≤ 384) (a : Fin 32) (r : Fin 8) (w : Fin 384) :
    oneCol x o h (ix3 a r w) = x (ix3 a r ⟨o, by omega⟩) := by
  pointwise [oneCol]

theorem mask_apply (c : IVec S1x8x384 1) (a : Fin 32) (r : Fin 8) (w : Fin 384) : mask c (ix3 a r w) = c (ix3 0 r w) := by
  pointwise [mask]

theorem logit_apply (q k : FVec Ideal S32x8x384 .f32) (r : Fin 8) (w : Fin 384) :
    logit q k (ix2 r w) = ∑ d : Fin 32, q (ix3 d r w) * k (ix3 d r w) := by
  pointwise [logit]

theorem lane_apply (c : IVec S8x384 32) (r : Fin 8) (w : Fin 384) :
    shapeCast S1x8x384 c shapeCasts_S8x384_S1x8x384 (ix3 0 r w) = c (ix2 r w) := by
  pointwise

/-- The row numbers are the block's first row and the row inside the block. -/
theorem rowNum_apply (i : grid0.Coords) (hi : (i 0).val < 48) (r : Fin 8) (w : Fin 384) :
    rowNum i (ix2 r w) = BitVec.ofNat 32 (8 * (i 0).val + r.val) := by
  have e : rowNum i (ix2 r w) = BitVec.ofNat 32 r.val + BitVec.ofNat 32 (i 0).val * 8#32 := by
    unfold rowNum k0_pay5
    show IntOp.addi (iota .tc S8x384 32 [0] iota_S8x384_d0_w32 (ix2 r w)) _ = _
    rw [iota_single_apply]
    rfl
  rw [e]
  apply BitVec.eq_of_toNat_eq
  simp only [BitVec.toNat_add, BitVec.toNat_mul, BitVec.toNat_ofNat]
  omega

theorem colNum_apply (r : Fin 8) (w : Fin 384) : colNum (ix2 r w) = BitVec.ofNat 32 w.val := by
  pointwise [colNum]

/-- A row-number mask, decided. -/
theorem low_apply (c : IVec S8x384 32) (n : Nat) (hn : n < 384) (r : Fin 8) (w : Fin 384)
    (hc : c (ix2 r w) = BitVec.ofNat 32 n) (a : Fin 32) :
    mask (cmpi .slt (shapeCast S1x8x384 c shapeCasts_S8x384_S1x8x384) (broadcast S1x8x384 2#32)) (ix3 a r w)
      = BitVec.ofBool (decide (n < 2)) := by
  rw [mask_apply, WordCmp.cmpi_at, lane_apply, hc]
  exact WordCmp.cmpi_slt_ofNat (by omega) (by omega)

theorem high_apply (c : IVec S8x384 32) (n : Nat) (hn : n < 384) (r : Fin 8) (w : Fin 384)
    (hc : c (ix2 r w) = BitVec.ofNat 32 n) (a : Fin 32) :
    mask (cmpi .sgt (shapeCast S1x8x384 c shapeCasts_S8x384_S1x8x384) (broadcast S1x8x384 381#32)) (ix3 a r w)
      = BitVec.ofBool (decide (381 < n)) := by
  rw [mask_apply, WordCmp.cmpi_at, lane_apply, hc]
  exact WordCmp.cmpi_sgt_ofNat (by omega) (by omega)

/-- The key row that row `8 t + r` meets at row offset `ki` is global row `start (8 t + r) + ki`, counted from the
    strip's first row `8 t - 8`. -/
theorem rows_apply (c : IVec S8x384 32) (t : Nat) (ht : t < 48) (k : FVec Ideal S32x24x384 .f32) (ki : Nat) (hi : ki < 5)
    (a : Fin 32) (r : Fin 8) (w : Fin 384) (hc : c (ix2 r w) = BitVec.ofNat 32 (8 * t + r.val)) :
    rows (shapeCast S1x8x384 c shapeCasts_S8x384_S1x8x384) k ki hi (ix3 a r w)
      = k (ix3 a ⟨start (8 * t + r.val) + ki + 8 - 8 * t, by unfold start; omega⟩ w) := by
  have hr := r.isLt
  unfold rows
  rw [WordCmp.select_at, WordCmp.select_at, low_apply c _ (by omega) r w hc, high_apply c _ (by omega) r w hc,
    WordCmp.select_decide, WordCmp.select_decide, oneRow_apply, oneRow_apply]
  by_cases h1 : 8 * t + r.val < 2
  · rw [if_pos h1]; exact at_mid k _ _ _ _ _ _ (by unfold start; omega)
  by_cases h2 : 381 < 8 * t + r.val
  · rw [if_neg h1, if_pos h2]; exact at_mid k _ _ _ _ _ _ (by unfold start; omega)
  rw [if_neg h1, if_neg h2]
  pointwise
  exact at_mid k _ _ _ _ _ _ (by unfold start; omega)

/-- Away from the axis's ends the turned columns are the columns shifted by `kj - 2`. -/
theorem turn_apply (x : FVec Ideal S32x8x384 .f32) (kj : Nat) (hj : kj < 5) (a : Fin 32) (r : Fin 8) (w : Fin 384)
    (h1 : ¬ w.val < 2) (h2 : ¬ 381 < w.val) :
    turn x kj (ix3 a r w) = x (ix3 a r ⟨start w.val + kj, start_add_lt _ _ hj⟩) := by
  match kj, hj with
  | 0, _ =>
    pointwise [turn]
    rw [dif_neg h1]; exact at_last x _ _ _ _ _ _ (by unfold start; omega)
  | 1, _ =>
    pointwise [turn]
    rw [dif_neg (by omega)]; exact at_last x _ _ _ _ _ _ (by unfold start; omega)
  | 2, _ => exact at_last x _ _ _ _ _ _ (by unfold start; omega)
  | 3, _ =>
    pointwise [turn]
    rw [dif_pos (by omega)]; exact at_last x _ _ _ _ _ _ (by unfold start; omega)
  | 4, _ =>
    pointwise [turn]
    rw [dif_pos (by omega)]; exact at_last x _ _ _ _ _ _ (by unfold start; omega)

/-- The key column that column `w` meets at column offset `kj`. -/
theorem cols_apply (x : FVec Ideal S32x8x384 .f32) (kj : Nat) (hj : kj < 5) (a : Fin 32) (r : Fin 8) (w : Fin 384) :
    cols (shapeCast S1x8x384 colNum shapeCasts_S8x384_S1x8x384) x kj hj (ix3 a r w)
      = x (ix3 a r ⟨start w.val + kj, start_add_lt _ _ hj⟩) := by
  have hw := w.isLt
  unfold cols
  rw [WordCmp.select_at, WordCmp.select_at, low_apply colNum _ hw r w (colNum_apply r w),
    high_apply colNum _ hw r w (colNum_apply r w), WordCmp.select_decide, WordCmp.select_decide, oneCol_apply, oneCol_apply]
  by_cases h1 : w.val < 2
  · rw [if_pos h1]; exact at_last x _ _ _ _ _ _ (by unfold start; omega)
  by_cases h2 : 381 < w.val
  · rw [if_neg h1, if_pos h2]; exact at_last x _ _ _ _ _ _ (by unfold start; omega)
  rw [if_neg h1, if_neg h2, turn_apply x kj hj a r w h1 h2]

/-! ## The bias -/

theorem entry_apply (b : Vec Ideal S3x9x9 .f32) (h a d : Nat) (hh : h < 3) (ha : a < 9) (hd : d < 9) :
    entry b h a d hh ha hd = b (ix3 ⟨h, hh⟩ ⟨a, ha⟩ ⟨d, hd⟩) := by
  unfold entry extractAt
  refine congrArg b (funext fun x => Fin.ext ?_)
  match x with
  | ⟨0, _⟩ => rfl
  | ⟨1, _⟩ => rfl
  | ⟨2, _⟩ => rfl

theorem five_apply (n : IVec S8x384 32) (c0 c1 c2 c3 c : FVec Ideal S8x384 .f32) (j : S8x384.Idx) (k : Nat) (hk : k < 384)
    (hn : n j = BitVec.ofNat 32 k) :
    five n c0 c1 c2 c3 c j
      = if k = 0 then c0 j else if k = 1 then c1 j else if k = 382 then c2 j else if k = 383 then c3 j else c j := by
  have e : ∀ z : Nat, z < 384 → cmpi .eq n (broadcast S8x384 (BitVec.ofNat 32 z)) j = BitVec.ofBool (decide (k = z)) := fun z hz => by
    rw [WordCmp.cmpi_at, hn]; exact WordCmp.cmpi_eq_ofNat (by omega) (by omega)
  unfold five
  rw [WordCmp.select_at, WordCmp.select_at, WordCmp.select_at, WordCmp.select_at, e 0 (by omega), e 1 (by omega), e 382 (by omega),
    e 383 (by omega), WordCmp.select_decide, WordCmp.select_decide, WordCmp.select_decide, WordCmp.select_decide]

/-- The five cases are the one table place `start k + 4 + o - k`. -/
theorem five_pick (f : Fin 9 → EReal) (k o : Nat) (hk : k < 384) (ho : o < 5) :
    (if k = 0 then f ⟨4 + o, by omega⟩ else if k = 1 then f ⟨3 + o, by omega⟩ else if k = 382 then f ⟨1 + o, by omega⟩
      else if k = 383 then f ⟨o, by omega⟩ else f ⟨2 + o, by omega⟩) = f ⟨start k + 4 + o - k, start_sub_lt k o hk ho⟩ := by
  have g : ∀ a b : Nat, ∀ ha : a < 9, ∀ hb : b < 9, a = b → f ⟨a, ha⟩ = f ⟨b, hb⟩ := fun a b _ _ e => by subst e; rfl
  by_cases h0 : k = 0
  · rw [if_pos h0]; exact g _ _ _ _ (by unfold start; omega)
  by_cases h1 : k = 1
  · rw [if_neg h0, if_pos h1]; exact g _ _ _ _ (by unfold start; omega)
  by_cases h2 : k = 382
  · rw [if_neg h0, if_neg h1, if_pos h2]; exact g _ _ _ _ (by unfold start; omega)
  by_cases h3 : k = 383
  · rw [if_neg h0, if_neg h1, if_neg h2, if_pos h3]; exact g _ _ _ _ (by unfold start; omega)
  · rw [if_neg h0, if_neg h1, if_neg h2, if_neg h3]; exact g _ _ _ _ (by unfold start; omega)

theorem colBias_apply (b : Vec Ideal S3x9x9 .f32) (h a kj : Nat) (hh : h < 3) (ha : a < 9) (hj : kj < 5) (r : Fin 8)
    (w : Fin 384) :
    colBias colNum b h a kj hh ha hj (ix2 r w)
      = b (ix3 ⟨h, hh⟩ ⟨a, ha⟩ ⟨start w.val + 4 + kj - w.val, start_sub_lt _ _ w.isLt hj⟩) := by
  unfold colBias
  rw [five_apply _ _ _ _ _ _ _ w.val w.isLt (colNum_apply r w)]
  simp only [WordCmp.broadcast_at, entry_apply]
  exact five_pick (fun z => b (ix3 ⟨h, hh⟩ ⟨a, ha⟩ z)) w.val kj w.isLt hj

theorem bias_apply (n : IVec S8x384 32) (b : Vec Ideal S3x9x9 .f32) (h ki kj : Nat) (hh : h < 3) (hi : ki < 5) (hj : kj < 5)
    (r : Fin 8) (w : Fin 384) (k : Nat) (hk : k < 384) (hn : n (ix2 r w) = BitVec.ofNat 32 k) :
    bias n colNum b h ki kj hh hi hj (ix2 r w)
      = b (ix3 ⟨h, hh⟩ ⟨start k + 4 + ki - k, start_sub_lt _ _ hk hi⟩
          ⟨start w.val + 4 + kj - w.val, start_sub_lt _ _ w.isLt hj⟩) := by
  unfold bias
  rw [five_apply _ _ _ _ _ _ _ k hk hn]
  simp only [colBias_apply]
  exact five_pick (fun z => b (ix3 ⟨h, hh⟩ z ⟨start w.val + 4 + kj - w.val, start_sub_lt _ _ w.isLt hj⟩)) k ki hk hi

/-! ## The store -/

theorem slab_apply (i : grid0.Coords) (ht : (i 0).val < 48) (q : FVec Ideal S96x8x384 .f32) (k : FVec Ideal S96x24x384 .f32)
    (b : Vec Ideal S3x9x9 .f32) (h ki kj : Nat) (hh : h < 3) (hi : ki < 5) (hj : kj < 5) (r : Fin 8) (w : Fin 384) :
    slab i q k b h ki kj hh hi hj (ix2 r w)
      = ∑ d : Fin 32, q (ix3 ⟨32 * h + d.val, by omega⟩ r w)
          * k (ix3 ⟨32 * h + d.val, by omega⟩ ⟨start (8 * (i 0).val + r.val) + ki + 8 - 8 * (i 0).val, by unfold start; omega⟩
              ⟨start w.val + kj, start_add_lt _ _ hj⟩)
        + b (ix3 ⟨h, hh⟩ ⟨start (8 * (i 0).val + r.val) + 4 + ki - (8 * (i 0).val + r.val), start_sub_lt _ _ (by omega) hi⟩
            ⟨start w.val + 4 + kj - w.val, start_sub_lt _ _ w.isLt hj⟩) := by
  have hn := rowNum_apply i ht r w
  unfold slab
  rw [ValueIdx.addf_apply, logit_apply, bias_apply _ b h ki kj hh hi hj r w _ (by omega) hn]
  refine congrArg (· + _) (Finset.sum_congr rfl fun d _ => ?_)
  rw [cols_apply, rows_apply _ _ ht _ ki hi _ _ _ (rowNum_apply i ht r _)]
  pointwise

/-- The same with the block's number named. -/
theorem slab_at (i : grid0.Coords) (t : Nat) (ht : t < 48) (e : (i 0).val = t) (q : FVec Ideal S96x8x384 .f32)
    (k : FVec Ideal S96x24x384 .f32) (b : Vec Ideal S3x9x9 .f32) (h ki kj : Nat) (hh : h < 3) (hi : ki < 5) (hj : kj < 5)
    (r : Fin 8) (w : Fin 384) :
    slab i q k b h ki kj hh hi hj (ix2 r w)
      = ∑ d : Fin 32, q (ix3 ⟨32 * h + d.val, by omega⟩ r w)
          * k (ix3 ⟨32 * h + d.val, by omega⟩ ⟨start (8 * t + r.val) + ki + 8 - 8 * t, by unfold start; omega⟩
              ⟨start w.val + kj, start_add_lt _ _ hj⟩)
        + b (ix3 ⟨h, hh⟩ ⟨start (8 * t + r.val) + 4 + ki - (8 * t + r.val), start_sub_lt _ _ (by omega) hi⟩
            ⟨start w.val + 4 + kj - w.val, start_sub_lt _ _ w.isLt hj⟩) := by
  subst e
  exact slab_apply i ht q k b h ki kj hh hi hj r w

theorem cell_apply (i : grid0.Coords) (q : FVec Ideal S96x8x384 .f32) (k : FVec Ideal S96x24x384 .f32) (b : Vec Ideal S3x9x9 .f32)
    (h ki kj : Nat) (hh : h < 3) (hi : ki < 5) (hj : kj < 5) (j : S1x1x1x8x384.Idx) :
    cell i q k b h ki kj hh hi hj j = slab i q k b h ki kj hh hi hj (ix2 (j 3) (j 4)) := by
  unfold cell
  generalize slab i q k b h ki kj hh hi hj = x
  pointwise

end Cert.Proof.Block

end
-- ==== Proof.Pieces.lean ====
/- The block that the kernel's body leaves, as the list of its 75 stores, each of them `Cell.cell`. -/
module

public import proofs.«01_k».proof.Proof.Cell
public import proofs.«01_k».proof.Proof.Gen.KernelIdeal.Frame

@[expose] public section

noncomputable section

namespace Cert.Proof.Pieces

open Cert.KernelIdeal Cert.KernelIdeal.Gen Idealize.ShloMosaic Idealize.SL.Sem Cert.Proof.Cell

variable {F : FTy → Type} [FloatOps F]

theorem inb_slab (h n : Nat) (hh : h < 3) (hn : n < 25) :
    ∀ d, (![0, h, n, 0, 0] : Fin S1x3x25x8x384.rank → Nat) d + S1x1x1x8x384.size d ≤ S1x3x25x8x384.size d := fun d => by
  match d with
  | ⟨0, _⟩ => exact Nat.le_refl _
  | ⟨1, _⟩ => exact hh
  | ⟨2, _⟩ => exact hn
  | ⟨3, _⟩ => exact Nat.le_refl _
  | ⟨4, _⟩ => exact Nat.le_refl _

/-- The queries of a block. -/
def queries (x1 : Vec F S1x96x8x384 .f32) (x3 : Vec F S96x96 .f32) (x5 : Vec F S96x1 .f32) : FVec F S96x8x384 .f32 :=
  k0_pay3 (View.ld x1 r0_0) (View.ld x3 r0_1) (View.ld x5 r0_2)

/-- The keys of a block's strip. -/
def keys (x0 x1 x2 : Vec F S1x96x8x384 .f32) (x4 : Vec F S96x96 .f32) (x6 : Vec F S96x1 .f32) : FVec F S96x24x384 .f32 :=
  k0_pay4 (View.ld x1 r0_0) (View.ld x0 r0_0) (View.ld x2 r0_0) (View.ld x4 r0_1) (View.ld x6 r0_2)

/-- Store number `n`: head `n / 25`, window place `n % 25`. -/
def piece (i : grid0.Coords) (q : FVec F S96x8x384 .f32) (k : FVec F S96x24x384 .f32) (b : Vec F S3x9x9 .f32) (n : Nat) :
    View.Piece (Elt F) S1x3x25x8x384 .f32 :=
  ⟨Rect.unit (s := S1x3x25x8x384) ![0, n / 25 % 3, n % 25, 0, 0] S1x1x1x8x384.size
      (inb_slab _ _ (Nat.mod_lt _ (by decide)) (Nat.mod_lt _ (by decide))),
    cell i q k b (n / 25 % 3) (n / 5 % 5) (n % 5) (Nat.mod_lt _ (by decide)) (Nat.mod_lt _ (by decide)) (Nat.mod_lt _ (by decide))⟩

/-- The first `n` stores, the last of them first. -/
def pieces (i : grid0.Coords) (q : FVec F S96x8x384 .f32) (k : FVec F S96x24x384 .f32) (b : Vec F S3x9x9 .f32) :
    Nat → List (View.Piece (Elt F) S1x3x25x8x384 .f32)
  | 0 => []
  | n + 1 => piece i q k b n :: pieces i q k b n

set_option maxHeartbeats 4000000 in
/-- What the body leaves in the output's buffer is the canon of the 75 stores. -/
theorem out_eq (i : grid0.Coords) (x0 x1 x2 : Vec F S1x96x8x384 .f32) (x3 x4 : Vec F S96x96 .f32) (x5 x6 : Vec F S96x1 .f32)
    (x7 : Vec F S3x9x9 .f32) :
    out0_8 i x0 x1 x2 x3 x4 x5 x6 x7 = View.canon (pieces i (queries x1 x3 x5) (keys x0 x1 x2 x4 x6) x7 75) := by
  unfold out0_8
  rfl

end Cert.Proof.Pieces

end
-- ==== Proof.Features.lean ====
/- The query and key features that a block computes, element by element, over the extended reals. -/
module

public import proofs.«01_k».proof.Proof.Pieces
public import Idealize.ShloMosaic.Lib.Pointwise

@[expose] public section

noncomputable section

namespace Cert.Proof.Features

open Cert.KernelIdeal Cert.KernelIdeal.Gen Idealize.ShloMosaic Idealize.SL.Sem Cert.Proof.Pieces
open scoped BigOperators

/-! ## Loads of whole buffers -/

theorem ld_strip (x : Vec Ideal S1x96x8x384 .f32) : View.ld x r0_0 = x :=
  View.ld_unit_zero (by funext a; match a with | ⟨0, _⟩ => rfl | ⟨1, _⟩ => rfl | ⟨2, _⟩ => rfl | ⟨3, _⟩ => rfl) _ x

theorem ld_weight (x : Vec Ideal S96x96 .f32) : View.ld x r0_1 = x :=
  View.ld_unit_zero (by funext a; match a with | ⟨0, _⟩ => rfl | ⟨1, _⟩ => rfl) _ x

theorem ld_offset (x : Vec Ideal S96x1 .f32) : View.ld x r0_2 = x :=
  View.ld_unit_zero (by funext a; match a with | ⟨0, _⟩ => rfl | ⟨1, _⟩ => rfl) _ x

theorem queries_apply (x1 : Vec Ideal S1x96x8x384 .f32) (x3 : Vec Ideal S96x96 .f32) (x5 : Vec Ideal S96x1 .f32)
    (f : Fin 96) (r : Fin 8) (w : Fin 384) :
    queries x1 x3 x5 (ix3 f r w) = ∑ c : Fin 96, x3 (ix2 f c) * x1 (ix4 0 c r w) + x5 (ix2 f 0) := by
  unfold queries
  rw [ld_strip, ld_weight, ld_offset]
  pointwise [k0_pay3, k0_pay2]

/-- Equal coordinates, equal elements. -/
theorem at_row (x : Vec Ideal S1x96x8x384 .f32) (c : Fin 96) (a a' b : Nat) (ha : a < 8) (ha' : a' < 8) (hb : b < 384) (w : Fin 384)
    (ea : a = a') (eb : b = w.val) : x (ix4 0 c ⟨a, ha⟩ ⟨b, hb⟩) = x (ix4 0 c ⟨a', ha'⟩ w) := by subst ea; subst eb; rfl

/-- Row `R` of the strip of three blocks. -/
def strip (x0 x1 x2 : Vec Ideal S1x96x8x384 .f32) (c : Fin 96) (R : Fin 24) (w : Fin 384) : EReal :=
  if h0 : R.val < 8 then x0 (ix4 0 c ⟨R.val, h0⟩ w)
  else if h1 : R.val < 16 then x1 (ix4 0 c ⟨R.val - 8, by omega⟩ w)
  else x2 (ix4 0 c ⟨R.val - 16, by omega⟩ w)

theorem keys_apply (x0 x1 x2 : Vec Ideal S1x96x8x384 .f32) (x4 : Vec Ideal S96x96 .f32) (x6 : Vec Ideal S96x1 .f32)
    (f : Fin 96) (R : Fin 24) (w : Fin 384) :
    keys x0 x1 x2 x4 x6 (ix3 f R w) = ∑ c : Fin 96, x4 (ix2 f c) * strip x0 x1 x2 c R w + x6 (ix2 f 0) := by
  unfold keys
  rw [ld_strip, ld_strip, ld_strip, ld_weight, ld_offset]
  pointwise [k0_pay4, k0_pay2]
  have hR := R.isLt
  have hw := w.isLt
  refine congrArg (· + _) (Finset.sum_congr rfl fun c _ => congrArg (_ * ·) ?_)
  unfold strip
  by_cases h0 : R.val < 8
  · rw [dif_pos h0, dif_pos (by omega)]; exact at_row x0 c _ _ _ _ _ w.isLt w (by omega) rfl
  by_cases h1 : R.val < 16
  · rw [dif_neg h0, dif_pos h1, dif_neg (by omega), dif_pos (by omega)]
    exact at_row x1 c _ _ _ _ _ _ w (by omega) (by omega)
  · rw [dif_neg h0, dif_neg h1, dif_neg (by omega), dif_neg (by omega)]
    exact at_row x2 c _ _ _ _ _ _ w (by omega) (by omega)

end Cert.Proof.Features

end
-- ==== Proof.Input.lean ====
/- The blocks that the kernel's body finds, as elements of the arguments. -/
module

public import proofs.«01_k».proof.Proof.Features
public import Idealize.ShloMosaic.Lib.StableHlo.ReadAt

@[expose] public section

noncomputable section

namespace Cert.Proof.Input

open Cert.KernelIdeal Cert.KernelIdeal.Gen Idealize.ShloMosaic Idealize.ShloMosaic.TcCoe Idealize.SL.Sem

variable (m : (ℓ : Loc nD τ sig) → Buf (Elt Ideal) ℓ)

/-! ## The arguments -/

/-- Element `(i, j, ch)` of the features. -/
def X (c : Dev nD) (i j : Fin 384) (ch : Fin 96) : EReal := (m ((c : Thread nD τ).loc main_arg0) : Vec Ideal S1x384x384x96 .f32) (ix4 0 i j ch)

/-- Element `(f, ch)` of the weights. -/
def W (c : Dev nD) (f : Fin 192) (ch : Fin 96) : EReal := (m ((c : Thread nD τ).loc main_arg1) : Vec Ideal S192x96 .f32) (ix2 f ch)

/-- Element `f` of the linear layer's bias. -/
def B (c : Dev nD) (f : Fin 192) : EReal := (m ((c : Thread nD τ).loc main_arg2) : Vec Ideal S192 .f32) (ix1 f)

/-- Element `(h, a, b)` of the relative position table. -/
def T (c : Dev nD) (h : Fin 3) (a b : Fin 9) : EReal := (m ((c : Thread nD τ).loc main_arg3) : Vec Ideal S3x9x9 .f32) (ix3 h a b)

/-! ## The arrays as the pipeline finds them -/

theorem array0 (c : Dev nD) (ch : Fin 96) (i j : Fin 384) :
    (V m c main_v0 : Vec Ideal S1x96x384x384 .f32) (ix4 0 ch i j) = X m c i j ch := by
  unfold V V0 X
  after_reads_at

theorem array1 (c : Dev nD) (f ch : Fin 96) :
    (V m c main_v1 : Vec Ideal S96x96 .f32) (ix2 f ch) = W m c ⟨f.val, by omega⟩ ch := by
  unfold V V0 W
  after_reads_at

theorem array2 (c : Dev nD) (f ch : Fin 96) :
    (V m c main_v2 : Vec Ideal S96x96 .f32) (ix2 f ch) = W m c ⟨96 + f.val, by omega⟩ ch := by
  unfold V V0 W
  after_reads_at

theorem array4 (c : Dev nD) (f : Fin 96) :
    (V m c main_v4 : Vec Ideal S96x1 .f32) (ix2 f 0) = B m c ⟨f.val, by omega⟩ := by
  unfold V V0 B
  after_reads_at

theorem array6 (c : Dev nD) (f : Fin 96) :
    (V m c main_v6 : Vec Ideal S96x1 .f32) (ix2 f 0) = B m c ⟨96 + f.val, by omega⟩ := by
  unfold V V0 B
  after_reads_at

/-! ## The blocks -/

theorem coord (t : Fin cfg0.N) : (grid0.coords t 0).val = t.val := (by decide +kernel : ∀ t : Fin grid0.N, (grid0.coords t 0).val = t.val) t

theorem lt48 (t : Fin cfg0.N) : t.val < 48 := t.isLt

theorem place0 : ∀ t : Fin cfg0.N, win0_0.index t (0 : Fin 4) = 0 ∧ win0_0.index t (1 : Fin 4) = 0
    ∧ win0_0.index t (2 : Fin 4) = t.val - 1 ∧ win0_0.index t (3 : Fin 4) = 0 :=
  (by decide +kernel : ∀ t : Fin grid0.N, _)

theorem place1 : ∀ t : Fin cfg0.N, win0_1.index t (0 : Fin 4) = 0 ∧ win0_1.index t (1 : Fin 4) = 0
    ∧ win0_1.index t (2 : Fin 4) = t.val ∧ win0_1.index t (3 : Fin 4) = 0 :=
  (by decide +kernel : ∀ t : Fin grid0.N, _)

theorem place2 : ∀ t : Fin cfg0.N, win0_2.index t (0 : Fin 4) = 0 ∧ win0_2.index t (1 : Fin 4) = 0
    ∧ win0_2.index t (2 : Fin 4) = min (t.val + 1) 47 ∧ win0_2.index t (3 : Fin 4) = 0 :=
  (by decide +kernel : ∀ t : Fin grid0.N, _)

theorem place3 : ∀ t : Fin cfg0.N, win0_3.index t (0 : Fin 2) = 0 ∧ win0_3.index t (1 : Fin 2) = 0 :=
  (by decide +kernel : ∀ t : Fin grid0.N, _)
theorem place4 : ∀ t : Fin cfg0.N, win0_4.index t (0 : Fin 2) = 0 ∧ win0_4.index t (1 : Fin 2) = 0 :=
  (by decide +kernel : ∀ t : Fin grid0.N, _)
theorem place5 : ∀ t : Fin cfg0.N, win0_5.index t (0 : Fin 2) = 0 ∧ win0_5.index t (1 : Fin 2) = 0 :=
  (by decide +kernel : ∀ t : Fin grid0.N, _)
theorem place6 : ∀ t : Fin cfg0.N, win0_6.index t (0 : Fin 2) = 0 ∧ win0_6.index t (1 : Fin 2) = 0 :=
  (by decide +kernel : ∀ t : Fin grid0.N, _)
theorem place7 : ∀ t : Fin cfg0.N, win0_7.index t (0 : Fin 3) = 0 ∧ win0_7.index t (1 : Fin 3) = 0
    ∧ win0_7.index t (2 : Fin 3) = 0 :=
  (by decide +kernel : ∀ t : Fin grid0.N, _)

/-- The block of rows before the block. -/
theorem block0 (c : Dev nD) (t : Fin cfg0.N) (ch : Fin 96) (r : Fin 8) (w : Fin 384) :
    (iblk m c 0 t : Vec Ideal S1x96x8x384 .f32) (ix4 0 ch r w)
      = X m c ⟨8 * (t.val - 1) + r.val, by have := lt48 t; omega⟩ w ch := by
  obtain ⟨e0, e1, e2, e3⟩ := place0 t
  rw [← array0 m c ch ⟨8 * (t.val - 1) + r.val, by have := lt48 t; omega⟩ w]
  refine congrArg (V m c main_v0 : Vec Ideal S1x96x384x384 .f32) (funext fun a => Fin.ext ?_)
  match a with
  | ⟨0, _⟩ => show win0_0.index t (0 : Fin 4) * 1 + 1 * 0 = 0; omega
  | ⟨1, _⟩ => show win0_0.index t (1 : Fin 4) * 96 + 1 * ch.val = ch.val; omega
  | ⟨2, _⟩ => show win0_0.index t (2 : Fin 4) * 8 + 1 * r.val = 8 * (t.val - 1) + r.val; omega
  | ⟨3, _⟩ => show win0_0.index t (3 : Fin 4) * 384 + 1 * w.val = w.val; omega

/-- The block of rows itself. -/
theorem block1 (c : Dev nD) (t : Fin cfg0.N) (ch : Fin 96) (r : Fin 8) (w : Fin 384) :
    (iblk m c 1 t : Vec Ideal S1x96x8x384 .f32) (ix4 0 ch r w)
      = X m c ⟨8 * t.val + r.val, by have := lt48 t; omega⟩ w ch := by
  obtain ⟨e0, e1, e2, e3⟩ := place1 t
  rw [← array0 m c ch ⟨8 * t.val + r.val, by have := lt48 t; omega⟩ w]
  refine congrArg (V m c main_v0 : Vec Ideal S1x96x384x384 .f32) (funext fun a => Fin.ext ?_)
  match a with
  | ⟨0, _⟩ => show win0_1.index t (0 : Fin 4) * 1 + 1 * 0 = 0; omega
  | ⟨1, _⟩ => show win0_1.index t (1 : Fin 4) * 96 + 1 * ch.val = ch.val; omega
  | ⟨2, _⟩ => show win0_1.index t (2 : Fin 4) * 8 + 1 * r.val = 8 * t.val + r.val; omega
  | ⟨3, _⟩ => show win0_1.index t (3 : Fin 4) * 384 + 1 * w.val = w.val; omega

/-- The block of rows after the block. -/
theorem block2 (c : Dev nD) (t : Fin cfg0.N) (ch : Fin 96) (r : Fin 8) (w : Fin 384) :
    (iblk m c 2 t : Vec Ideal S1x96x8x384 .f32) (ix4 0 ch r w)
      = X m c ⟨8 * min (t.val + 1) 47 + r.val, by have := lt48 t; omega⟩ w ch := by
  obtain ⟨e0, e1, e2, e3⟩ := place2 t
  rw [← array0 m c ch ⟨8 * min (t.val + 1) 47 + r.val, by have := lt48 t; omega⟩ w]
  refine congrArg (V m c main_v0 : Vec Ideal S1x96x384x384 .f32) (funext fun a => Fin.ext ?_)
  match a with
  | ⟨0, _⟩ => show win0_2.index t (0 : Fin 4) * 1 + 1 * 0 = 0; omega
  | ⟨1, _⟩ => show win0_2.index t (1 : Fin 4) * 96 + 1 * ch.val = ch.val; omega
  | ⟨2, _⟩ => show win0_2.index t (2 : Fin 4) * 8 + 1 * r.val = 8 * min (t.val + 1) 47 + r.val; omega
  | ⟨3, _⟩ => show win0_2.index t (3 : Fin 4) * 384 + 1 * w.val = w.val; omega

/-- The weights of the queries. -/
theorem block3 (c : Dev nD) (t : Fin cfg0.N) (f ch : Fin 96) :
    (iblk m c 3 t : Vec Ideal S96x96 .f32) (ix2 f ch) = W m c ⟨f.val, by omega⟩ ch := by
  obtain ⟨e0, e1⟩ := place3 t
  rw [← array1 m c f ch]
  refine congrArg (V m c main_v1 : Vec Ideal S96x96 .f32) (funext fun a => Fin.ext ?_)
  match a with
  | ⟨0, _⟩ => show win0_3.index t (0 : Fin 2) * 96 + 1 * f.val = f.val; omega
  | ⟨1, _⟩ => show win0_3.index t (1 : Fin 2) * 96 + 1 * ch.val = ch.val; omega

/-- The weights of the keys. -/
theorem block4 (c : Dev nD) (t : Fin cfg0.N) (f ch : Fin 96) :
    (iblk m c 4 t : Vec Ideal S96x96 .f32) (ix2 f ch) = W m c ⟨96 + f.val, by omega⟩ ch := by
  obtain ⟨e0, e1⟩ := place4 t
  rw [← array2 m c f ch]
  refine congrArg (V m c main_v2 : Vec Ideal S96x96 .f32) (funext fun a => Fin.ext ?_)
  match a with
  | ⟨0, _⟩ => show win0_4.index t (0 : Fin 2) * 96 + 1 * f.val = f.val; omega
  | ⟨1, _⟩ => show win0_4.index t (1 : Fin 2) * 96 + 1 * ch.val = ch.val; omega

/-- The bias of the queries. -/
theorem block5 (c : Dev nD) (t : Fin cfg0.N) (f : Fin 96) :
    (iblk m c 5 t : Vec Ideal S96x1 .f32) (ix2 f 0) = B m c ⟨f.val, by omega⟩ := by
  obtain ⟨e0, e1⟩ := place5 t
  rw [← array4 m c f]
  refine congrArg (V m c main_v4 : Vec Ideal S96x1 .f32) (funext fun a => Fin.ext ?_)
  match a with
  | ⟨0, _⟩ => show win0_5.index t (0 : Fin 2) * 96 + 1 * f.val = f.val; omega
  | ⟨1, _⟩ => show win0_5.index t (1 : Fin 2) * 1 + 1 * 0 = 0; omega

/-- The bias of the keys. -/
theorem block6 (c : Dev nD) (t : Fin cfg0.N) (f : Fin 96) :
    (iblk m c 6 t : Vec Ideal S96x1 .f32) (ix2 f 0) = B m c ⟨96 + f.val, by omega⟩ := by
  obtain ⟨e0, e1⟩ := place6 t
  rw [← array6 m c f]
  refine congrArg (V m c main_v6 : Vec Ideal S96x1 .f32) (funext fun a => Fin.ext ?_)
  match a with
  | ⟨0, _⟩ => show win0_6.index t (0 : Fin 2) * 96 + 1 * f.val = f.val; omega
  | ⟨1, _⟩ => show win0_6.index t (1 : Fin 2) * 1 + 1 * 0 = 0; omega

/-- The table. -/
theorem block7 (c : Dev nD) (t : Fin cfg0.N) (h : Fin 3) (a b : Fin 9) :
    (iblk m c 7 t : Vec Ideal S3x9x9 .f32) (ix3 h a b) = T m c h a b := by
  obtain ⟨e0, e1, e2⟩ := place7 t
  unfold T
  rw [← V_main_arg3 m c]
  refine congrArg (V m c main_arg3 : Vec Ideal S3x9x9 .f32) (funext fun x => Fin.ext ?_)
  match x with
  | ⟨0, _⟩ => show win0_7.index t (0 : Fin 3) * 3 + 1 * h.val = h.val; omega
  | ⟨1, _⟩ => show win0_7.index t (1 : Fin 3) * 9 + 1 * a.val = a.val; omega
  | ⟨2, _⟩ => show win0_7.index t (2 : Fin 3) * 9 + 1 * b.val = b.val; omega

end Cert.Proof.Input

end
-- ==== Proof.Array.lean ====
/- What the kernel's pipeline leaves in its output array: the logits, one row of blocks at a time. -/
module

public import proofs.«01_k».proof.Proof.Block
public import proofs.«01_k».proof.Proof.Input

@[expose] public section

noncomputable section

namespace Cert.Proof.Array

open Cert.KernelIdeal Cert.KernelIdeal.Gen Idealize.ShloMosaic Idealize.ShloMosaic.TcCoe Idealize.SL.Sem
open Cert.Proof.Input Cert.Proof.Features Cert.Proof.Pieces Cert.Proof.Block
open Cert.Proof.Spec (start start_add_lt start_sub_lt)
open scoped BigOperators

variable (m : (ℓ : Loc nD τ sig) → Buf (Elt Ideal) ℓ)

/-- The logits of the arguments. -/
def L (c : Dev nD) (h : Fin 3) (i j : Fin 384) (ki kj : Fin 5) : EReal := Spec.logit (X m c) (W m c) (B m c) (T m c) h i j ki kj

/-! ## The features of a block -/

theorem X_row (c : Dev nD) (a b : Nat) (ha : a < 384) (hb : b < 384) (w : Fin 384) (ch : Fin 96) (e : a = b) :
    X m c ⟨a, ha⟩ w ch = X m c ⟨b, hb⟩ w ch := by subst e; rfl

theorem query_apply (c : Dev nD) (t : Fin cfg0.N) (h : Fin 3) (d : Fin 32) (r : Fin 8) (w : Fin 384) :
    queries (iblk m c 1 t) (iblk m c 3 t) (iblk m c 5 t) (ix3 ⟨32 * h.val + d.val, by omega⟩ r w)
      = Spec.query (X m c) (W m c) (B m c) h d ⟨8 * t.val + r.val, by have := lt48 t; omega⟩ w := by
  rw [queries_apply, block5]
  refine congrArg (· + _) (Finset.sum_congr rfl fun ch _ => ?_)
  rw [block3, block1, mul_comm]

/-- Row `R` of the strip is row `8 t + R - 8` of the features, where that row is one of theirs. -/
theorem strip_apply (c : Dev nD) (t : Fin cfg0.N) (ch : Fin 96) (R : Fin 24) (w : Fin 384) (g : Fin 384)
    (hg : g.val + 8 = 8 * t.val + R.val) :
    strip (iblk m c 0 t) (iblk m c 1 t) (iblk m c 2 t) ch R w = X m c g w ch := by
  have := lt48 t
  have := g.isLt
  unfold strip
  by_cases h0 : R.val < 8
  · rw [dif_pos h0, block0]; exact X_row m c _ _ _ g.isLt w ch (by show 8 * (t.val - 1) + R.val = _; omega)
  by_cases h1 : R.val < 16
  · rw [dif_neg h0, dif_pos h1, block1]; exact X_row m c _ _ _ g.isLt w ch (by show 8 * t.val + (R.val - 8) = _; omega)
  · rw [dif_neg h0, dif_neg h1, block2]
    exact X_row m c _ _ _ g.isLt w ch (by show 8 * min (t.val + 1) 47 + (R.val - 16) = _; omega)

theorem key_apply (c : Dev nD) (t : Fin cfg0.N) (h : Fin 3) (d : Fin 32) (R : Fin 24) (w : Fin 384) (g : Fin 384)
    (hg : g.val + 8 = 8 * t.val + R.val) :
    keys (iblk m c 0 t) (iblk m c 1 t) (iblk m c 2 t) (iblk m c 4 t) (iblk m c 6 t) (ix3 ⟨32 * h.val + d.val, by omega⟩ R w)
      = Spec.key (X m c) (W m c) (B m c) h d g w := by
  rw [keys_apply, block6]
  refine congrArg (· + _) (Finset.sum_congr rfl fun ch _ => ?_)
  rw [block4, strip_apply m c t ch R w g hg, mul_comm]

/-! ## The stores of a block -/

theorem slab_eq (c : Dev nD) (t : Fin cfg0.N) (h : Fin 3) (ki kj : Fin 5) (r : Fin 8) (w : Fin 384) :
    Cell.slab (grid0.coords t) (queries (iblk m c 1 t) (iblk m c 3 t) (iblk m c 5 t))
        (keys (iblk m c 0 t) (iblk m c 1 t) (iblk m c 2 t) (iblk m c 4 t) (iblk m c 6 t)) (iblk m c 7 t)
        h.val ki.val kj.val h.isLt ki.isLt kj.isLt (ix2 r w)
      = L m c h ⟨8 * t.val + r.val, by have := lt48 t; omega⟩ w ki kj := by
  rw [slab_at _ t.val (lt48 t) (coord t), block7]
  refine congrArg (· + _) (Finset.sum_congr rfl fun d _ => ?_)
  rw [query_apply]
  refine congrArg (_ * ·) (key_apply m c t h d _ _ _ ?_)
  have := lt48 t
  have := r.isLt
  show start (8 * t.val + r.val) + ki.val + 8 = 8 * t.val + (start (8 * t.val + r.val) + ki.val + 8 - 8 * t.val)
  unfold start
  omega

theorem mem_pieces (i : grid0.Coords) (q : FVec Ideal S96x8x384 .f32) (k : FVec Ideal S96x24x384 .f32) (b : Vec Ideal S3x9x9 .f32)
    (p : View.Piece (Elt Ideal) S1x3x25x8x384 .f32) : ∀ N : Nat, p ∈ pieces i q k b N ↔ ∃ n, n < N ∧ p = piece i q k b n
  | 0 => ⟨fun h => absurd h (List.not_mem_nil), fun ⟨_, h, _⟩ => absurd h (Nat.not_lt_zero _)⟩
  | N + 1 => by
    show p ∈ piece i q k b N :: pieces i q k b N ↔ _
    rw [List.mem_cons, mem_pieces i q k b p N]
    constructor
    · rintro (e | ⟨n, hn, e⟩)
      · exact ⟨N, Nat.lt_succ_self N, e⟩
      · exact ⟨n, Nat.lt_succ_of_lt hn, e⟩
    · rintro ⟨n, hn, e⟩
      rcases Nat.lt_succ_iff_lt_or_eq.mp hn with h | h
      · exact .inr ⟨n, h, e⟩
      · subst h; exact .inl e

/-- The logits of block `t`. -/
def blockL (c : Dev nD) (t : Fin cfg0.N) : Vec Ideal S1x3x25x8x384 .f32 := fun y =>
  L m c (y 1) ⟨8 * t.val + (y 3).val, by have := lt48 t; have : (y 3).val < 8 := (y 3).isLt; omega⟩ (y 4)
    ⟨(y 2).val / 5, by have : (y 2).val < 25 := (y 2).isLt; omega⟩ ⟨(y 2).val % 5, Nat.mod_lt _ (by decide)⟩

theorem L_congr (c : Dev nD) {h h' : Fin 3} {i i' j j' : Fin 384} {ki ki' kj kj' : Fin 5} (eh : h.val = h'.val) (ei : i.val = i'.val)
    (ej : j.val = j'.val) (eki : ki.val = ki'.val) (ekj : kj.val = kj'.val) : L m c h i j ki kj = L m c h' i' j' ki' kj' := by
  rw [Fin.ext eh, Fin.ext ei, Fin.ext ej, Fin.ext eki, Fin.ext ekj]

/-- What the body leaves in the output's buffer at point `t`. -/
theorem out_block (c : Dev nD) (t : Fin cfg0.N) :
    out0_8 (grid0.coords t) (iblk m c 0 t) (iblk m c 1 t) (iblk m c 2 t) (iblk m c 3 t) (iblk m c 4 t) (iblk m c 5 t)
      (iblk m c 6 t) (iblk m c 7 t) = blockL m c t := by
  rw [out_eq]
  funext y
  refine View.canon_apply_of_pieces (blockL m c t) _ (fun p hp x => ?_) y ?_
  · obtain ⟨n, _, rfl⟩ := (mem_pieces _ _ _ _ p 75).mp hp
    have x0 : (x 0).val < 1 := (x 0).isLt
    have x1 : (x 1).val < 1 := (x 1).isLt
    have x2 : (x 2).val < 1 := (x 2).isLt
    refine (cell_apply _ _ _ _ _ _ _ _ _ _ x).trans ?_
    refine (slab_eq m c t ⟨n / 25 % 3, Nat.mod_lt _ (by decide)⟩ ⟨n / 5 % 5, Nat.mod_lt _ (by decide)⟩ ⟨n % 5, Nat.mod_lt _ (by decide)⟩
      (x 3) (x 4)).trans (L_congr m c ?_ ?_ ?_ ?_ ?_)
    · show n / 25 % 3 = n / 25 % 3 + 1 * (x 1).val; omega
    · show 8 * t.val + (x 3).val = 8 * t.val + (0 + 1 * (x 3).val); omega
    · show (x 4).val = 0 + 1 * (x 4).val; omega
    · show n / 5 % 5 = (n % 25 + 1 * (x 2).val) / 5; omega
    · show n % 5 = (n % 25 + 1 * (x 2).val) % 5; omega
  · have y0 : (y 0).val < 1 := (y 0).isLt
    have y1 : (y 1).val < 3 := (y 1).isLt
    have y2 : (y 2).val < 25 := (y 2).isLt
    have y3 : (y 3).val < 8 := (y 3).isLt
    have y4 : (y 4).val < 384 := (y 4).isLt
    refine ⟨piece _ _ _ _ (25 * (y 1).val + (y 2).val), (mem_pieces _ _ _ _ _ 75).mpr ⟨_, by omega, rfl⟩, ?_⟩
    refine (Rect.mem_set_unit (inb := inb_slab _ _ (Nat.mod_lt _ (by decide)) (Nat.mod_lt _ (by decide)))).mpr fun a => ?_
    match a with
    | ⟨0, _⟩ => exact ⟨Nat.zero_le _, by show (y 0).val < 0 + 1; omega⟩
    | ⟨1, _⟩ => exact ⟨by show (25 * (y 1).val + (y 2).val) / 25 % 3 ≤ (y 1).val; omega,
        by show (y 1).val < (25 * (y 1).val + (y 2).val) / 25 % 3 + 1; omega⟩
    | ⟨2, _⟩ => exact ⟨by show (25 * (y 1).val + (y 2).val) % 25 ≤ (y 2).val; omega,
        by show (y 2).val < (25 * (y 1).val + (y 2).val) % 25 + 1; omega⟩
    | ⟨3, _⟩ => exact ⟨Nat.zero_le _, by show (y 3).val < 0 + 8; omega⟩
    | ⟨4, _⟩ => exact ⟨Nat.zero_le _, by show (y 4).val < 0 + 384; omega⟩

/-! ## The array -/

/-- The logits as the output array's contents. -/
def G (c : Dev nD) : Vec Ideal S1x3x25x384x384 .f32 := fun y =>
  L m c (y 1) (y 3) (y 4) ⟨(y 2).val / 5, by have : (y 2).val < 25 := (y 2).isLt; omega⟩ ⟨(y 2).val % 5, Nat.mod_lt _ (by decide)⟩

theorem place8 : ∀ t : Fin cfg0.N, win0_8.index t (0 : Fin 5) = 0 ∧ win0_8.index t (1 : Fin 5) = 0
    ∧ win0_8.index t (2 : Fin 5) = 0 ∧ win0_8.index t (3 : Fin 5) = t.val ∧ win0_8.index t (4 : Fin 5) = 0 :=
  (by decide +kernel : ∀ t : Fin grid0.N, _)

/-- What a point writes back is its block of the logits. -/
theorem flushed8 (c : Dev nD) (t : Fin cfg0.N) :
    (dats m 0 c).flushed 8 t = ((cfg0.win 8).blk t).view.read (Elt Ideal) (G m c) := by
  obtain ⟨e0, e1, e2, e3, e4⟩ := place8 t
  show (cfg0.win 8).cut (grid0.coords t) ((dats m 0 c).after 8 t) = _
  rw [after0_8, out_block]
  funext y
  show blockL m c t y = G m c (((cfg0.win 8).blk t).view.emb y)
  have y0 : (y 0).val < 1 := (y 0).isLt
  refine L_congr m c ?_ ?_ ?_ ?_ ?_
  · show (y 1).val = win0_8.index t (1 : Fin 5) * 3 + 1 * (y 1).val; omega
  · show 8 * t.val + (y 3).val = win0_8.index t (3 : Fin 5) * 8 + 1 * (y 3).val; omega
  · show (y 4).val = win0_8.index t (4 : Fin 5) * 384 + 1 * (y 4).val; omega
  · show (y 2).val / 5 = (win0_8.index t (2 : Fin 5) * 25 + 1 * (y 2).val) / 5; rw [e2]; omega
  · show (y 2).val % 5 = (win0_8.index t (2 : Fin 5) * 25 + 1 * (y 2).val) % 5; rw [e2]; omega

/-- Every element of the output array is in some point's block. -/
theorem covered8 (y : S1x3x25x384x384.Idx) :
    ∃ t : Fin cfg0.N, (cfg0.win 8).flush t = true ∧ y ∈ ((cfg0.win 8).blk t).view.set := by
  have y0 : (y 0).val < 1 := (y 0).isLt
  have y3 : (y 3).val < 384 := (y 3).isLt
  let t : Fin cfg0.N := ⟨(y 3).val / 8, by show (y 3).val / 8 < 48; omega⟩
  refine ⟨t, flush0_8 t, ?_⟩
  obtain ⟨e0, e1, e2, e3, e4⟩ := place8 t
  let z : S1x3x25x8x384.Idx := ix5 (y 0) (y 1) (y 2) ⟨(y 3).val % 8, Nat.mod_lt _ (by decide)⟩ (y 4)
  have hz : ((cfg0.win 8).blk t).view.emb z = y := by
    funext a; apply Fin.ext
    match a with
    | ⟨0, _⟩ => show win0_8.index t (0 : Fin 5) * 1 + 1 * (y 0).val = (y 0).val; omega
    | ⟨1, _⟩ => show win0_8.index t (1 : Fin 5) * 3 + 1 * (y 1).val = (y 1).val; omega
    | ⟨2, _⟩ => show win0_8.index t (2 : Fin 5) * 25 + 1 * (y 2).val = (y 2).val; omega
    | ⟨3, _⟩ =>
      show win0_8.index t (3 : Fin 5) * 8 + 1 * ((y 3).val % 8) = (y 3).val
      rw [e3]; show (y 3).val / 8 * 8 + 1 * ((y 3).val % 8) = (y 3).val; omega
    | ⟨4, _⟩ => show win0_8.index t (4 : Fin 5) * 384 + 1 * (y 4).val = (y 4).val; omega
  have h := ((cfg0.win 8).blk t).view.emb_mem_set z
  rwa [hz] at h

/-- The output array after the pipeline. -/
theorem final8 (c : Dev nD) : (dats m 0 c).arrAt 8 cfg0.N = G m c :=
  (dats m 0 c).arrAt_eq_of_cover 8 (G m c) (fun t _ => flushed8 m c t) covered8

/-! ## The result -/

/-- The logits as the result's contents. -/
def R (c : Dev nD) : Vec Ideal S1x3x384x384x25 .f32 := fun y =>
  L m c (y 1) (y 2) (y 3) ⟨(y 4).val / 5, by have : (y 4).val < 25 := (y 4).isLt; omega⟩ ⟨(y 4).val % 5, Nat.mod_lt _ (by decide)⟩

theorem result (c : Dev nD) : Pipeline.afterTail₀ cfgs (dats m) 0 (V0 m) [hostOps1] c main_v8 = R m c := by
  unfold Pipeline.afterTail₀
  funext y
  have e : Pipeline.withArrays spec0 c (V0 m c) (fun w => (dats m 0 c).arrAt w cfg0.N) (Proc.devRef .tc main_v7) = G m c :=
    (Pipeline.withArrays_arr_shared spec0 c (V0 m c) (fun w => (dats m 0 c).arrAt w cfg0.N)
      (Pipeline.Dat.arrAt_sharedIn (dats m 0 c) sharedIn0 (V0 m c) (A_eq m c) cfg0.N) 8).trans (final8 m c)
  generalize Pipeline.withArrays spec0 c (V0 m c) (fun w => (dats m 0 c).arrAt w cfg0.N) = V1 at e
  after_reads_at
  rw [e]
  rfl

end Cert.Proof.Array

end
-- ==== Proof.Words.lean ====
/- The index arrays of the reference: which places a window covers, and how far each lies from its centre. -/
module

public import proofs.«01_k».proof.Proof.Spec
public import proofs.«01_k».proof.Proof.Gen.ReferenceIdeal.Read
public import Idealize.ShloMosaic.Lib.Pointwise
public import Idealize.ShloMosaic.Lib.WordCmp

@[expose] public section

noncomputable section

namespace Cert.Proof.Words

open Cert.ReferenceIdeal Cert.ReferenceIdeal.Gen Cert.ReferenceIdeal.Read Idealize.ShloMosaic Idealize.SL.Sem

/-- The first place of a window, as the reference computes it with 32-bit words. -/
def startWord (i : Nat) : BitVec 32 := IntOp.minsi 379#32 (IntOp.maxsi 0#32 (IntOp.subi (BitVec.ofNat 32 i) 2#32))

theorem startWord_eq : ∀ i : Fin 384, startWord i.val = BitVec.ofNat 32 (Spec.start i.val) := by decide +kernel

/-- The distance from the centre to the first place of a window, counted from 0, as the reference computes it. -/
def distanceWord (i : Nat) : BitVec 32 :=
  IntOp.subi (IntOp.addi (IntOp.subi (startWord i) (BitVec.ofNat 32 i)) 5#32) 1#32

theorem distanceWord_eq : ∀ i : Fin 384, distanceWord i.val = BitVec.ofNat 32 (Spec.start i.val + 4 - i.val) := by
  decide +kernel

/-- A word made of a number below 512 is that number, read signed. -/
theorem toNat_word (n : Nat) (h : n < 512) : (BitVec.ofNat 32 n).toInt.toNat = n := by
  rw [WordCmp.toInt_ofNat_of_lt (by omega)]
  exact Int.toNat_natCast n

theorem start_word (i : Fin 384) (k : Fin 5) :
    (IntOp.addi (startWord i.val) (BitVec.ofNat 32 k.val)).toInt.toNat = Spec.start i.val + k.val := by
  rw [startWord_eq, show IntOp.addi (BitVec.ofNat 32 (Spec.start i.val)) (BitVec.ofNat 32 k.val)
    = BitVec.ofNat 32 (Spec.start i.val + k.val) from (BitVec.ofNat_add ..).symm]
  exact toNat_word _ (by have := Spec.start_add_lt i.val k.val k.isLt; omega)

theorem distance_word (i : Fin 384) (k : Fin 5) :
    (IntOp.addi (distanceWord i.val) (BitVec.ofNat 32 k.val)).toInt.toNat = Spec.start i.val + 4 + k.val - i.val := by
  have hs : i.val ≤ Spec.start i.val + 4 := by unfold Spec.start; omega
  rw [distanceWord_eq, show IntOp.addi (BitVec.ofNat 32 (Spec.start i.val + 4 - i.val)) (BitVec.ofNat 32 k.val)
    = BitVec.ofNat 32 (Spec.start i.val + 4 - i.val + k.val) from (BitVec.ofNat_add ..).symm]
  rw [toNat_word _ (by have := Spec.start_sub_lt i.val k.val i.isLt k.isLt; omega)]
  omega

/-! ## The four index arrays -/

theorem rowStart (i : Fin 384) : val_main_v14 (F := Ideal) (ix1 i) = startWord i.val := by
  unfold val_main_v14
  pointwise [val_main_call0_v4, val_main_call0_v3, val_main_call0_v2, val_main_call0_v1, val_main_call0_v0, val_main_c_0,
    val_main_c_1, val_main_v13, val_main_v12, val_main_v11, val_main_c]
  rfl

theorem columnStart (i : Fin 384) : val_main_v35 (F := Ideal) (ix1 i) = startWord i.val := by
  unfold val_main_v35
  pointwise [val_main_call1_v4, val_main_call1_v3, val_main_call1_v2, val_main_call1_v1, val_main_call1_v0, val_main_c_5,
    val_main_c_6, val_main_v34, val_main_v33, val_main_v32, val_main_c_4]
  rfl

theorem rowPlace (i : Fin 384) (k : Fin 5) :
    (val_main_call2_v0 (F := Ideal) (ix3 i k 0)).toInt.toNat = Spec.start i.val + k.val := by
  rw [← start_word, ← rowStart]
  unfold val_main_call2_v0
  pointwise [val_main_v20, val_main_v19, val_main_v18, val_main_v17, val_main_v16, val_main_v15]

theorem columnPlace (i : Fin 384) (k : Fin 5) :
    (val_main_call3_v0 (F := Ideal) (ix3 i k 0)).toInt.toNat = Spec.start i.val + k.val := by
  rw [← start_word, ← columnStart]
  unfold val_main_call3_v0
  pointwise [val_main_v41, val_main_v40, val_main_v39, val_main_v38, val_main_v37, val_main_v36]

theorem rowDistance (i : Fin 384) (k : Fin 5) :
    (val_main_call4_v0 (F := Ideal) (ix3 i k 0)).toInt.toNat = Spec.start i.val + 4 + k.val - i.val := by
  rw [← distance_word, distanceWord, ← rowStart]
  unfold val_main_call4_v0
  pointwise [val_main_v31, val_main_v30, val_main_v29, val_main_v28, val_main_v27, val_main_v26, val_main_v25,
    val_main_v24, val_main_v23, val_main_v22, val_main_v21, val_main_v11, val_main_c_2, val_main_c_3]

theorem columnDistance (i : Fin 384) (k : Fin 5) :
    (val_main_call5_v0 (F := Ideal) (ix3 i k 0)).toInt.toNat = Spec.start i.val + 4 + k.val - i.val := by
  rw [← distance_word, distanceWord, ← columnStart]
  unfold val_main_call5_v0
  pointwise [val_main_v52, val_main_v51, val_main_v50, val_main_v49, val_main_v48, val_main_v47, val_main_v46,
    val_main_v45, val_main_v44, val_main_v43, val_main_v42, val_main_v32, val_main_c_7, val_main_c_8]

end Cert.Proof.Words

end
-- ==== Proof.Gather.lean ====
/- The reference's gathers read at an index: along one axis, the element at the place the index word names. -/
module

public import proofs.«01_k».proof.Proof.Gen.ReferenceIdeal.Read
public import Idealize.ShloMosaic.Lib.Pointwise

@[expose] public section

noncomputable section

namespace Cert.Proof.Gather

open Cert.ReferenceIdeal Cert.ReferenceIdeal.Gen Idealize.ShloMosaic Idealize.SL.Sem

/-- A gather along the one axis `a`: the element at place `p` of that axis, when the index word is `p`, and at the
    result's own coordinates on the others. -/
theorem gather_axis {s si t : Shape} {α : Type} {w : Nat} (d : GatherDims s si t) (x : s.Idx → α) (idx : IVec si w)
    (j : t.Idx) (p : s.Idx) (a : Fin s.rank) (q : si.Idx) (h0 : 0 < d.startIndexMap.length)
    (hq : ∀ b, (d.siIdx j ⟨0, h0⟩ b).val = (q b).val)
    (ha : d.start j idx a + d.batchCoord j a + d.offCoord j a
      = min (idx (d.siIdx j ⟨0, h0⟩)).toInt.toNat (s.size a - 1))
    (hp : (idx q).toInt.toNat = (p a).val)
    (h : ∀ b, b ≠ a → d.start j idx b + d.batchCoord j b + d.offCoord j b = (p b).val) :
    Host.gather d x idx j = x p := by
  unfold Host.gather
  congr 1
  funext b
  refine Fin.ext ?_
  show d.start j idx b + d.batchCoord j b + d.offCoord j b = _
  by_cases e : b = a
  · subst e
    have hlt := (p b).isLt
    rw [ha, show d.siIdx j ⟨0, h0⟩ = q from funext fun b => Fin.ext (hq b), hp]
    omega
  · exact h b e

theorem rows (x : Vec Ideal S1x3x384x384x32 .f32) (idx : IVec S384x5x1 32) (h : Fin 3) (i : Fin 384) (k : Fin 5)
    (j : Fin 384) (d : Fin 32) (p : Fin 384) (hp : (idx (ix3 i k 0)).toInt.toNat = p.val) :
    Host.gather gather_S1x3x384x384x32_S384x5x1_S1x3x384x5x384x32_0145_2_n_n_2_2_13138432 x idx (ix6 0 h i k j d)
      = x (ix5 0 h p j d) :=
  gather_axis _ x idx _ _ 2 (ix3 i k 0) Nat.one_pos
    (fun b => match b with | ⟨0, _⟩ => rfl | ⟨1, _⟩ => rfl | ⟨2, _⟩ => rfl) rfl hp
    (fun b hb => match b with
      | ⟨0, _⟩ | ⟨1, _⟩ | ⟨3, _⟩ | ⟨4, _⟩ => Nat.zero_add _
      | ⟨2, _⟩ => absurd rfl hb)

theorem columns (x : Vec Ideal S1x3x384x5x384x32 .f32) (idx : IVec S384x5x1 32) (h : Fin 3) (i : Fin 384) (ki : Fin 5)
    (j : Fin 384) (kj : Fin 5) (d : Fin 32) (p : Fin 384) (hp : (idx (ix3 j kj 0)).toInt.toNat = p.val) :
    Host.gather gather_S1x3x384x5x384x32_S384x5x1_S1x3x384x5x384x5x32_01236_4_n_n_4_2_133845132 x idx
        (ix7 0 h i ki j kj d) = x (ix6 0 h i ki p d) :=
  gather_axis _ x idx _ _ 4 (ix3 j kj 0) Nat.one_pos
    (fun b => match b with | ⟨0, _⟩ => rfl | ⟨1, _⟩ => rfl | ⟨2, _⟩ => rfl) rfl hp
    (fun b hb => match b with
      | ⟨0, _⟩ | ⟨1, _⟩ | ⟨2, _⟩ | ⟨3, _⟩ | ⟨5, _⟩ => Nat.zero_add _
      | ⟨4, _⟩ => absurd rfl hb)

theorem tableRows (x : Vec Ideal S3x9x9 .f32) (idx : IVec S384x5x1 32) (h : Fin 3) (i : Fin 384) (ki : Fin 5)
    (b : Fin 9) (p : Fin 9) (hp : (idx (ix3 i ki 0)).toInt.toNat = p.val) :
    Host.gather gather_S3x9x9_S384x5x1_S3x384x5x9_03_1_n_n_1_2_319 x idx (ix4 h i ki b) = x (ix3 h p b) :=
  gather_axis _ x idx _ _ 1 (ix3 i ki 0) Nat.one_pos
    (fun b => match b with | ⟨0, _⟩ => rfl | ⟨1, _⟩ => rfl | ⟨2, _⟩ => rfl) rfl hp
    (fun b hb => match b with
      | ⟨0, _⟩ | ⟨2, _⟩ => Nat.zero_add _
      | ⟨1, _⟩ => absurd rfl hb)

theorem tableColumns (x : Vec Ideal S3x384x5x9 .f32) (idx : IVec S384x5x1 32) (h : Fin 3) (i : Fin 384) (ki : Fin 5)
    (j : Fin 384) (kj : Fin 5) (p : Fin 9) (hp : (idx (ix3 j kj 0)).toInt.toNat = p.val) :
    Host.gather gather_S3x384x5x9_S384x5x1_S3x384x5x384x5_012_3_n_n_3_2_338451 x idx (ix5 h i ki j kj)
      = x (ix4 h i ki p) :=
  gather_axis _ x idx _ _ 3 (ix3 j kj 0) Nat.one_pos
    (fun b => match b with | ⟨0, _⟩ => rfl | ⟨1, _⟩ => rfl | ⟨2, _⟩ => rfl) rfl hp
    (fun b hb => match b with
      | ⟨0, _⟩ | ⟨1, _⟩ | ⟨2, _⟩ => Nat.zero_add _
      | ⟨3, _⟩ => absurd rfl hb)

end Cert.Proof.Gather

end
-- ==== Proof.Ref.lean ====
/- What the reference computes, element by element, over the extended reals. -/
module

public import proofs.«01_k».proof.Proof.Words
public import proofs.«01_k».proof.Proof.Gather

@[expose] public section

noncomputable section

namespace Cert.Proof.Ref

open Cert.ReferenceIdeal Cert.ReferenceIdeal.Gen Cert.ReferenceIdeal.Read Idealize.ShloMosaic Idealize.SL.Sem
open scoped BigOperators

variable (x0 : Vec Ideal S1x384x384x96 .f32) (x1 : Vec Ideal S192x96 .f32) (x2 : Vec Ideal S192 .f32)
  (x3 : Vec Ideal S3x9x9 .f32)

/-- The input features by row, column and channel. -/
def X (i j : Fin 384) (ch : Fin 96) : EReal := x0 (ix4 0 i j ch)
/-- The weights of the linear layer. -/
def W (f : Fin 192) (ch : Fin 96) : EReal := x1 (ix2 f ch)
/-- The offsets of the linear layer. -/
def B (f : Fin 192) : EReal := x2 (ix1 f)
/-- The position table. -/
def T (h : Fin 3) (a b : Fin 9) : EReal := x3 (ix3 h a b)

theorem linear (i j : Fin 384) (f : Fin 192) :
    val_main_v4 (F := Ideal) x0 x1 x2 (ix4 0 i j f) = Spec.feature (X x0) (W x1) (B x2) f i j := by
  unfold val_main_v4
  pointwise [val_main_v1, val_main_v0, val_main_v2, val_main_v3]
  rfl

theorem feature_congr (X : Fin 384 → Fin 384 → Fin 96 → EReal) (W : Fin 192 → Fin 96 → EReal) (B : Fin 192 → EReal)
    (f g : Fin 192) (i j : Fin 384) (e : f.val = g.val) : Spec.feature X W B f i j = Spec.feature X W B g i j := by
  rw [Fin.ext e]

theorem queries (h : Fin 3) (i j : Fin 384) (d : Fin 32) :
    val_main_v8 (F := Ideal) x0 x1 x2 (ix5 0 h i j d) = Spec.query (X x0) (W x1) (B x2) h d i j := by
  unfold val_main_v8
  pointwise [val_main_v7, val_main_v6, val_main_v5]
  exact (linear x0 x1 x2 i j _).trans (feature_congr _ _ _ _ _ i j (by show h.val * 32 + d.val = 32 * h.val + d.val; omega))

theorem keys (h : Fin 3) (i j : Fin 384) (d : Fin 32) :
    val_main_v10 (F := Ideal) x0 x1 x2 (ix5 0 h i j d) = Spec.key (X x0) (W x1) (B x2) h d i j := by
  unfold val_main_v10
  pointwise [val_main_v9, val_main_v6, val_main_v5]
  exact (linear x0 x1 x2 i j _).trans (feature_congr _ _ _ _ _ i j (by show 96 + h.val * 32 + d.val = 96 + (32 * h.val + d.val); omega))

theorem table (h : Fin 3) (i j : Fin 384) (ki kj : Fin 5) :
    val_main_v60 (F := Ideal) x3 (ix5 h i ki j kj)
      = T x3 h ⟨Spec.start i.val + 4 + ki.val - i.val, Spec.start_sub_lt _ _ i.isLt ki.isLt⟩
          ⟨Spec.start j.val + 4 + kj.val - j.val, Spec.start_sub_lt _ _ j.isLt kj.isLt⟩ := by
  unfold val_main_v60
  rw [Gather.tableColumns _ _ h i ki j kj ⟨_, Spec.start_sub_lt _ _ j.isLt kj.isLt⟩ (Words.columnDistance j kj)]
  unfold val_main_v59
  exact Gather.tableRows _ _ h i ki _ ⟨_, Spec.start_sub_lt _ _ i.isLt ki.isLt⟩ (Words.rowDistance i ki)

theorem windows (h : Fin 3) (i j : Fin 384) (ki kj : Fin 5) (d : Fin 32) :
    val_main_v54 (F := Ideal) x0 x1 x2 (ix7 0 h i ki j kj d)
      = Spec.key (X x0) (W x1) (B x2) h d ⟨Spec.start i.val + ki.val, Spec.start_add_lt _ _ ki.isLt⟩
          ⟨Spec.start j.val + kj.val, Spec.start_add_lt _ _ kj.isLt⟩ := by
  unfold val_main_v54
  rw [Gather.columns _ _ h i ki j kj d ⟨_, Spec.start_add_lt _ _ kj.isLt⟩ (Words.columnPlace j kj)]
  unfold val_main_v53
  rw [Gather.rows _ _ h i ki _ d ⟨_, Spec.start_add_lt _ _ ki.isLt⟩ (Words.rowPlace i ki)]
  exact keys x0 x1 x2 h _ _ d

/-- The product the reference sums over a head's 32 features. -/
theorem products (h : Fin 3) (i j : Fin 384) (ki kj : Fin 5) (d : Fin 32) :
    val_main_v57 (F := Ideal) x0 x1 x2 (ix7 0 h i ki j kj d)
      = Spec.query (X x0) (W x1) (B x2) h d i j
        * Spec.key (X x0) (W x1) (B x2) h d ⟨Spec.start i.val + ki.val, Spec.start_add_lt _ _ ki.isLt⟩
          ⟨Spec.start j.val + kj.val, Spec.start_add_lt _ _ kj.isLt⟩ := by
  unfold val_main_v57
  pointwise [val_main_v56, val_main_v55, windows, queries]

theorem dots (h : Fin 3) (i j : Fin 384) (ki kj : Fin 5) :
    val_main_v58 (F := Ideal) x0 x1 x2 (ix6 0 h i ki j kj)
      = ∑ d : Fin 32, val_main_v57 (F := Ideal) x0 x1 x2 (ix7 0 h i ki j kj d) := by
  rw [val_main_v58_apply]
  pointwise [val_main_cst]
  refine Finset.sum_congr rfl fun d _ => congrArg _ (funext fun b => ?_)
  match b with
  | ⟨0, _⟩ | ⟨1, _⟩ | ⟨2, _⟩ | ⟨3, _⟩ | ⟨4, _⟩ | ⟨5, _⟩ | ⟨6, _⟩ => rfl

theorem logits (h : Fin 3) (i j : Fin 384) (ki kj : Fin 5) :
    val_main_v62 (F := Ideal) x0 x1 x2 x3 (ix6 0 h i ki j kj)
      = Spec.logit (X x0) (W x1) (B x2) (T x3) h i j ki kj := by
  unfold val_main_v62
  pointwise [val_main_v61, table, dots, products]
  rfl

theorem result (y : S1x3x384x384x25.Idx) :
    val_main_v64 (F := Ideal) x0 x1 x2 x3 y
      = Spec.logit (X x0) (W x1) (B x2) (T x3) (y 1) (y 2) (y 3)
          ⟨(y 4).val / 5, Nat.div_lt_of_lt_mul (y 4).isLt⟩ ⟨(y 4).val % 5, Nat.mod_lt _ (by decide)⟩ := by
  rw [eq_ix5 y]
  generalize y 0 = z, y 1 = h, y 2 = i, y 3 = j, y 4 = k
  unfold val_main_v64
  pointwise [val_main_v63, logits]

end Cert.Proof.Ref

end
-- ==== Proof.lean ====
/- The claim of this certificate: the three programs end with their arguments unchanged and every counter at
   zero, the idealized kernel is the kernel's own text, and the idealized kernel and the reference end with equal
   results. -/
module

public import proofs.«01_k».proof.Defs
public import proofs.«01_k».proof.Proof.Array
public import proofs.«01_k».proof.Proof.Ref
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) :=
  fun m g _ => Cert.Kernel.Gen.frame m g

theorem frame_kernelIdeal : Cert.quiescent_KernelIdeal (hKernelIdeal := Cert.KernelIdeal.Gen.facts) :=
  fun m g _ => Cert.KernelIdeal.Gen.frame m g

theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- The idealized kernel ends with the logits in its result and its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v8) = Array.R m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨((h.1 c).2 Cert.KernelIdeal.main_v8
      (Pipeline.mem_restRefs_of Cert.KernelIdeal.main_v8 (by decide) (by decide))).trans (Array.result m c), h.2 c⟩)
    (θ_run_and (Cert.KernelIdeal.Gen.run_main m g) (Cert.KernelIdeal.Gen.unchanged m g))

/-- The reference's result, from arguments equal to the kernel's, is the kernel's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v64 m' c = Array.R m c := by
  rw [Cert.ReferenceIdeal.Read.val_main_v64_eq, h0, h1, h2, h3]
  funext y
  exact Ref.result _ _ _ _ y

theorem algebraic : Cert.algebraic_KernelIdeal_ReferenceIdeal (hKernelIdeal := Cert.KernelIdeal.Gen.facts)
    (hReferenceIdeal := Cert.ReferenceIdeal.Gen.facts) :=
  fun m g m' g' _ hargs => ⟨fun c => Array.R m c, kernel_run m g,
    (θ_run Cert.ReferenceIdeal.defs _ _).mono
      (fun _ h c => ⟨(h c).1.trans (reference_result m m' c (hargs c).1 (hargs c).2.1 (hargs c).2.2.1 (hargs c).2.2.2),
        (h c).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
